-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x64x256 : Shape := ⟨3, ![4, 64, 256]⟩
abbrev S771x256 : Shape := ⟨2, ![771, 256]⟩
abbrev S256x1024 : Shape := ⟨2, ![256, 1024]⟩
abbrev S1024x256 : Shape := ⟨2, ![1024, 256]⟩
abbrev S_ : Shape := ⟨0, ![]⟩

class Facts : Prop where
  bcast_S_S4x64x256 : S_.BroadcastsInDim S4x64x256 (![] : Fin 0 → Fin S4x64x256.rank)
  bcast_S_S771x256 : S_.BroadcastsInDim S771x256 (![] : Fin 0 → Fin S771x256.rank)
  bcast_S_S256x1024 : S_.BroadcastsInDim S256x1024 (![] : Fin 0 → Fin S256x1024.rank)
  bcast_S_S1024x256 : S_.BroadcastsInDim S1024x256 (![] : Fin 0 → Fin S1024x256.rank)

variable [Facts]

def fn {F : FTy → Type} [FloatOps F] (main_arg0 : FVec F S4x64x256 .f32) (main_arg1 : FVec F S771x256 .f32) (main_arg2 : FVec F S256x1024 .f32) (main_arg3 : FVec F S1024x256 .f32) (main_arg4 : FVec F S256x1024 .f32) (main_arg5 : FVec F S1024x256 .f32) : IVec S4x64x256 1 × IVec S771x256 1 × IVec S256x1024 1 × IVec S1024x256 1 × IVec S256x1024 1 × IVec S1024x256 1 :=
  let main_v0 : FVec F S4x64x256 .f32 := Host.absf main_arg0
  let main_cst : FVec F S_ .f32 := constant S_ .f32 0x7F800000#32
  let main_v1 : FVec F S4x64x256 .f32 := broadcastInDim S4x64x256 ![] bcast_S_S4x64x256 main_cst
  let main_v2 : IVec S4x64x256 1 := cmpf .olt main_v0 main_v1
  let main_v3 : FVec F S771x256 .f32 := Host.absf main_arg1
  let main_cst_0 : FVec F S_ .f32 := constant S_ .f32 0x7F800000#32
  let main_v4 : FVec F S771x256 .f32 := broadcastInDim S771x256 ![] bcast_S_S771x256 main_cst_0
  let main_v5 : IVec S771x256 1 := cmpf .olt main_v3 main_v4
  let main_v6 : FVec F S256x1024 .f32 := Host.absf main_arg2
  let main_cst_1 : FVec F S_ .f32 := constant S_ .f32 0x7F800000#32
  let main_v7 : FVec F S256x1024 .f32 := broadcastInDim S256x1024 ![] bcast_S_S256x1024 main_cst_1
  let main_v8 : IVec S256x1024 1 := cmpf .olt main_v6 main_v7
  let main_v9 : FVec F S1024x256 .f32 := Host.absf main_arg3
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_v12 : FVec F S256x1024 .f32 := Host.absf main_arg4
  let main_cst_3 : FVec F S_ .f32 := constant S_ .f32 0x7F800000#32
  let main_v13 : FVec F S256x1024 .f32 := broadcastInDim S256x1024 ![] bcast_S_S256x1024 main_cst_3
  let main_v14 : IVec S256x1024 1 := cmpf .olt main_v12 main_v13
  let main_v15 : FVec F S1024x256 .f32 := Host.absf main_arg5
  let main_cst_4 : FVec F S_ .f32 := constant S_ .f32 0x7F800000#32
  let main_v16 : FVec F S1024x256 .f32 := broadcastInDim S1024x256 ![] bcast_S_S1024x256 main_cst_4
  let main_v17 : IVec S1024x256 1 := cmpf .olt main_v15 main_v16
  (main_v2, main_v5, main_v8, main_v11, main_v14, main_v17)
-- ==== Kernel.lean ====
abbrev S4x64x256 : Shape := ⟨3, ![4, 64, 256]⟩
abbrev S771x256 : Shape := ⟨2, ![771, 256]⟩
abbrev S256x1024 : Shape := ⟨2, ![256, 1024]⟩
abbrev S1024x256 : Shape := ⟨2, ![1024, 256]⟩
abbrev S768x256 : Shape := ⟨2, ![768, 256]⟩
abbrev S256x768 : Shape := ⟨2, ![256, 768]⟩
abbrev S_ : Shape := ⟨0, ![]⟩
abbrev S256x128 : Shape := ⟨2, ![256, 128]⟩
abbrev S3x256 : Shape := ⟨2, ![3, 256]⟩
abbrev S256x3 : Shape := ⟨2, ![256, 3]⟩
abbrev S1 : Shape := ⟨1, ![1]⟩
abbrev S256x896 : Shape := ⟨2, ![256, 896]⟩
abbrev S4x64x1x256 : Shape := ⟨4, ![4, 64, 1, 256]⟩
abbrev S2x64x256 : Shape := ⟨3, ![2, 64, 256]⟩
abbrev S2x64x1x256 : Shape := ⟨4, ![2, 64, 1, 256]⟩
abbrev S2x64x768 : Shape := ⟨3, ![2, 64, 768]⟩
abbrev S2x64x128 : Shape := ⟨3, ![2, 64, 128]⟩
abbrev S2x256x2048 : Shape := ⟨3, ![2, 256, 2048]⟩
abbrev S2x1024x512 : Shape := ⟨3, ![2, 1024, 512]⟩
abbrev S1x128 : Shape := ⟨2, ![1, 128]⟩
abbrev S1x64x256 : Shape := ⟨3, ![1, 64, 256]⟩
abbrev S64x256 : Shape := ⟨2, ![64, 256]⟩
abbrev S64x896 : Shape := ⟨2, ![64, 896]⟩
abbrev S64x128 : Shape := ⟨2, ![64, 128]⟩
abbrev S64 : Shape := ⟨1, ![64]⟩
abbrev S64x1 : Shape := ⟨2, ![64, 1]⟩
abbrev S1x64x128 : Shape := ⟨3, ![1, 64, 128]⟩
abbrev S1x256x1024 : Shape := ⟨3, ![1, 256, 1024]⟩
abbrev S1x1024x256 : Shape := ⟨3, ![1, 1024, 256]⟩
abbrev S1x1 : Shape := ⟨2, ![1, 1]⟩
abbrev S1x16 : Shape := ⟨2, ![1, 16]⟩
abbrev S16x1 : Shape := ⟨2, ![16, 1]⟩
abbrev S1x16x256 : Shape := ⟨3, ![1, 16, 256]⟩
abbrev S16x256 : Shape := ⟨2, ![16, 256]⟩
abbrev S1x16x128 : Shape := ⟨3, ![1, 16, 128]⟩
abbrev S16x128 : Shape := ⟨2, ![16, 128]⟩
abbrev S32x256 : Shape := ⟨2, ![32, 256]⟩
abbrev S1x256x2048 : Shape := ⟨3, ![1, 256, 2048]⟩
abbrev S256x2048 : Shape := ⟨2, ![256, 2048]⟩
abbrev S32x2048 : Shape := ⟨2, ![32, 2048]⟩
abbrev S16x1024 : Shape := ⟨2, ![16, 1024]⟩
abbrev S32x16 : Shape := ⟨2, ![32, 16]⟩
abbrev S16x16 : Shape := ⟨2, ![16, 16]⟩
abbrev S1x256 : Shape := ⟨2, ![1, 256]⟩
abbrev S1x1024 : Shape := ⟨2, ![1, 1024]⟩
abbrev S1x1024x512 : Shape := ⟨3, ![1, 1024, 512]⟩
abbrev S1024x512 : Shape := ⟨2, ![1024, 512]⟩
abbrev S1x512 : Shape := ⟨2, ![1, 512]⟩
abbrev S1x2048 : Shape := ⟨2, ![1, 2048]⟩
abbrev S2x1024 : Shape := ⟨2, ![2, 1024]⟩
abbrev S1x2 : Shape := ⟨2, ![1, 2]⟩
abbrev S2x256 : Shape := ⟨2, ![2, 256]⟩
abbrev S3x1024 : Shape := ⟨2, ![3, 1024]⟩
abbrev S1x3 : Shape := ⟨2, ![1, 3]⟩
abbrev S4x1024 : Shape := ⟨2, ![4, 1024]⟩
abbrev S1x4 : Shape := ⟨2, ![1, 4]⟩
abbrev S4x256 : Shape := ⟨2, ![4, 256]⟩
abbrev S5x1024 : Shape := ⟨2, ![5, 1024]⟩
abbrev S1x5 : Shape := ⟨2, ![1, 5]⟩
abbrev S5x256 : Shape := ⟨2, ![5, 256]⟩
abbrev S6x1024 : Shape := ⟨2, ![6, 1024]⟩
abbrev S1x6 : Shape := ⟨2, ![1, 6]⟩
abbrev S6x256 : Shape := ⟨2, ![6, 256]⟩
abbrev S7x1024 : Shape := ⟨2, ![7, 1024]⟩
abbrev S1x7 : Shape := ⟨2, ![1, 7]⟩
abbrev S7x256 : Shape := ⟨2, ![7, 256]⟩
abbrev S8x1024 : Shape := ⟨2, ![8, 1024]⟩
abbrev S1x8 : Shape := ⟨2, ![1, 8]⟩
abbrev S8x256 : Shape := ⟨2, ![8, 256]⟩
abbrev S9x1024 : Shape := ⟨2, ![9, 1024]⟩
abbrev S1x9 : Shape := ⟨2, ![1, 9]⟩
abbrev S9x256 : Shape := ⟨2, ![9, 256]⟩
abbrev S10x1024 : Shape := ⟨2, ![10, 1024]⟩
abbrev S1x10 : Shape := ⟨2, ![1, 10]⟩
abbrev S10x256 : Shape := ⟨2, ![10, 256]⟩
abbrev S11x1024 : Shape := ⟨2, ![11, 1024]⟩
abbrev S1x11 : Shape := ⟨2, ![1, 11]⟩
abbrev S11x256 : Shape := ⟨2, ![11, 256]⟩
abbrev S12x1024 : Shape := ⟨2, ![12, 1024]⟩
abbrev S1x12 : Shape := ⟨2, ![1, 12]⟩
abbrev S12x256 : Shape := ⟨2, ![12, 256]⟩
abbrev S13x1024 : Shape := ⟨2, ![13, 1024]⟩
abbrev S1x13 : Shape := ⟨2, ![1, 13]⟩
abbrev S13x256 : Shape := ⟨2, ![13, 256]⟩
abbrev S14x1024 : Shape := ⟨2, ![14, 1024]⟩
abbrev S1x14 : Shape := ⟨2, ![1, 14]⟩
abbrev S14x256 : Shape := ⟨2, ![14, 256]⟩
abbrev S15x1024 : Shape := ⟨2, ![15, 1024]⟩
abbrev S1x15 : Shape := ⟨2, ![1, 15]⟩
abbrev S15x256 : Shape := ⟨2, ![15, 256]⟩
abbrev S16x512 : Shape := ⟨2, ![16, 512]⟩
abbrev S16x1x256 : Shape := ⟨3, ![16, 1, 256]⟩
abbrev S1x16x1x256 : Shape := ⟨4, ![1, 16, 1, 256]⟩
abbrev S512x1024 : Shape := ⟨2, ![512, 1024]⟩
abbrev S16x2048 : Shape := ⟨2, ![16, 2048]⟩
abbrev S2048x256 : Shape := ⟨2, ![2048, 256]⟩

abbrev nBuf : Space → Nat
  | .hbm => 19
  | .vmem => 16
  | .smem => 0
  | _ => 0

abbrev bufTy : (tb : Table) → Fin (tcTables nBuf tb) → BufTy
  | .hbm, ⟨0, _⟩ => ⟨S4x64x256, .f32⟩
  | .hbm, ⟨1, _⟩ => ⟨S771x256, .f32⟩
  | .hbm, ⟨2, _⟩ => ⟨S256x1024, .f32⟩
  | .hbm, ⟨3, _⟩ => ⟨S1024x256, .f32⟩
  | .hbm, ⟨4, _⟩ => ⟨S256x1024, .f32⟩
  | .hbm, ⟨5, _⟩ => ⟨S1024x256, .f32⟩
  | .hbm, ⟨6, _⟩ => ⟨S768x256, .f32⟩
  | .hbm, ⟨7, _⟩ => ⟨S256x768, .f32⟩
  | .hbm, ⟨8, _⟩ => ⟨S_, .f32⟩
  | .hbm, ⟨9, _⟩ => ⟨S256x128, .f32⟩
  | .hbm, ⟨10, _⟩ => ⟨S3x256, .f32⟩
  | .hbm, ⟨11, _⟩ => ⟨S256x3, .f32⟩
  | .hbm, ⟨12, _⟩ => ⟨S_, .i32⟩
  | .hbm, ⟨13, _⟩ => ⟨S1, .i32⟩
  | .hbm, ⟨14, _⟩ => ⟨S256x128, .f32⟩
  | .hbm, ⟨15, _⟩ => ⟨S256x896, .f32⟩
  | .hbm, ⟨16, _⟩ => ⟨S256x1024, .f32⟩
  | .hbm, ⟨17, _⟩ => ⟨S256x1024, .f32⟩
  | .hbm, ⟨18, _⟩ => ⟨S4x64x1x256, .f32⟩
  | .local _ .vmem, ⟨0, _⟩ => ⟨S2x64x256, .f32⟩
  | .local _ .vmem, ⟨1, _⟩ => ⟨S2x64x256, .f32⟩
  | .local _ .vmem, ⟨2, _⟩ => ⟨S256x896, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1024x256, .f32⟩
  | .local _ .vmem, ⟨8, _⟩ => ⟨S1024x256, .f32⟩
  | .local _ .vmem, ⟨9, _⟩ => ⟨S2x64x1x256, .f32⟩
  | .local _ .vmem, ⟨10, _⟩ => ⟨S2x64x1x256, .f32⟩
  | .local _ .vmem, ⟨11, _⟩ => ⟨S2x64x768, .f32⟩
  | .local _ .vmem, ⟨12, _⟩ => ⟨S2x64x128, .f32⟩
  | .local _ .vmem, ⟨13, _⟩ => ⟨S2x256x2048, .f32⟩
  | .local _ .vmem, ⟨14, _⟩ => ⟨S2x1024x512, .f32⟩
  | .local _ .vmem, ⟨15, _⟩ => ⟨S2x256x2048, .f32⟩
  | _, _ => ⟨S4x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_125 : BitVec 32 := 0#32
  let c4_i32_126 : BitVec 32 := 4#32
  let v324 : BitVec 32 := Scalar.addi c0_i32_125 c4_i32_126
  let c1_i32_127 : BitVec 32 := 1#32
  ⟨c0_i32_125, v324, c1_i32_127⟩
def k0_off1 (k0_t1 : Fin k0_t1_loop.trips) : Fin 3 → Nat :=
  let c0_129 : Index := 0#32
  let c0_i32_125 : BitVec 32 := 0#32
  let c1_i32_127 : BitVec 32 := 1#32
  let arg15 : BitVec 32 := Scf.iv c0_i32_125 c1_i32_127 k0_t1
  let c16_i32 : BitVec 32 := 16#32
  let v325 : BitVec 32 := Scalar.muli arg15 c16_i32
  let v326 : Index := Scalar.indexCast v325
  let c256_130 : Index := 256#32
  ![0, v326.toNat, 256]
def k0_off2 (k0_t1 : Fin k0_t1_loop.trips) : Fin 3 → Nat :=
  let c0_131 : Index := 0#32
  let c0_i32_125 : BitVec 32 := 0#32
  let c1_i32_127 : BitVec 32 := 1#32
  let arg15 : BitVec 32 := Scf.iv c0_i32_125 c1_i32_127 k0_t1
  let c16_i32 : BitVec 32 := 16#32
  let v325 : BitVec 32 := Scalar.muli arg15 c16_i32
  let v329 : Index := Scalar.indexCast v325
  let c0_132 : Index := 0#32
  ![0, v329.toNat, 0]
def k0_off3 (k0_t1 : Fin k0_t1_loop.trips) : Fin 3 → Nat :=
  let c0_133 : Index := 0#32
  let c0_i32_125 : BitVec 32 := 0#32
  let c1_i32_127 : BitVec 32 := 1#32
  let arg15 : BitVec 32 := Scf.iv c0_i32_125 c1_i32_127 k0_t1
  let c16_i32 : BitVec 32 := 16#32
  let v325 : BitVec 32 := Scalar.muli arg15 c16_i32
  let v332 : Index := Scalar.indexCast v325
  let c512_134 : Index := 512#32
  ![0, v332.toNat, 512]
def k0_off4 (k0_t1 : Fin k0_t1_loop.trips) : Fin 3 → Nat :=
  let c0_135 : Index := 0#32
  let c0_i32_125 : BitVec 32 := 0#32
  let c1_i32_127 : BitVec 32 := 1#32
  let arg15 : BitVec 32 := Scf.iv c0_i32_125 c1_i32_127 k0_t1
  let c16_i32 : BitVec 32 := 16#32
  let v325 : BitVec 32 := Scalar.muli arg15 c16_i32
  let v335 : Index := Scalar.indexCast v325
  let c0_136 : Index := 0#32
  ![0, v335.toNat, 0]
def k0_off5 (k0_t1 : Fin k0_t1_loop.trips) : Fin 4 → Nat :=
  let c0_386 : Index := 0#32
  let c0_i32_125 : BitVec 32 := 0#32
  let c1_i32_127 : BitVec 32 := 1#32
  let arg15 : BitVec 32 := Scf.iv c0_i32_125 c1_i32_127 k0_t1
  let c16_i32 : BitVec 32 := 16#32
  let v325 : BitVec 32 := Scalar.muli arg15 c16_i32
  let v3749 : Index := Scalar.indexCast v325
  let c0_387 : Index := 0#32
  let c0_388 : Index := 0#32
  ![0, v3749.toNat, 0, 0]
def k0_off6 (k0_t1 : Fin k0_t1_loop.trips) : Fin 3 → Nat :=
  let c1_428 : Index := 1#32
  let c0_i32_125 : BitVec 32 := 0#32
  let c1_i32_127 : BitVec 32 := 1#32
  let arg15 : BitVec 32 := Scf.iv c0_i32_125 c1_i32_127 k0_t1
  let c16_i32 : BitVec 32 := 16#32
  let v325 : BitVec 32 := Scalar.muli arg15 c16_i32
  let v3834 : Index := Scalar.indexCast v325
  let c256_429 : Index := 256#32
  ![1, v3834.toNat, 256]
def k0_off7 (k0_t1 : Fin k0_t1_loop.trips) : Fin 3 → Nat :=
  let c1_430 : Index := 1#32
  let c0_i32_125 : BitVec 32 := 0#32
  let c1_i32_127 : BitVec 32 := 1#32
  let arg15 : BitVec 32 := Scf.iv c0_i32_125 c1_i32_127 k0_t1
  let c16_i32 : BitVec 32 := 16#32
  let v325 : BitVec 32 := Scalar.muli arg15 c16_i32
  let v3837 : Index := Scalar.indexCast v325
  let c0_431 : Index := 0#32
  ![1, v3837.toNat, 0]
def k0_off8 (k0_t1 : Fin k0_t1_loop.trips) : Fin 3 → Nat :=
  let c1_432 : Index := 1#32
  let c0_i32_125 : BitVec 32 := 0#32
  let c1_i32_127 : BitVec 32 := 1#32
  let arg15 : BitVec 32 := Scf.iv c0_i32_125 c1_i32_127 k0_t1
  let c16_i32 : BitVec 32 := 16#32
  let v325 : BitVec 32 := Scalar.muli arg15 c16_i32
  let v3840 : Index := Scalar.indexCast v325
  let c512_433 : Index := 512#32
  ![1, v3840.toNat, 512]
def k0_off9 (k0_t1 : Fin k0_t1_loop.trips) : Fin 3 → Nat :=
  let c1_434 : Index := 1#32
  let c0_i32_125 : BitVec 32 := 0#32
  let c1_i32_127 : BitVec 32 := 1#32
  let arg15 : BitVec 32 := Scf.iv c0_i32_125 c1_i32_127 k0_t1
  let c16_i32 : BitVec 32 := 16#32
  let v325 : BitVec 32 := Scalar.muli arg15 c16_i32
  let v3843 : Index := Scalar.indexCast v325
  let c0_435 : Index := 0#32
  ![1, v3843.toNat, 0]
def k0_off10 (k0_t1 : Fin k0_t1_loop.trips) : Fin 4 → Nat :=
  let c1_685 : Index := 1#32
  let c0_i32_125 : BitVec 32 := 0#32
  let c1_i32_127 : BitVec 32 := 1#32
  let arg15 : BitVec 32 := Scf.iv c0_i32_125 c1_i32_127 k0_t1
  let c16_i32 : BitVec 32 := 16#32
  let v325 : BitVec 32 := Scalar.muli arg15 c16_i32
  let v7257 : Index := Scalar.indexCast v325
  let c0_686 : Index := 0#32
  let c0_687 : Index := 0#32
  ![1, v7257.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x64x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4x64x256 : Shape := ⟨3, ![4, 64, 256]⟩
abbrev S771x256 : Shape := ⟨2, ![771, 256]⟩
abbrev S256x1024 : Shape := ⟨2, ![256, 1024]⟩
abbrev S1024x256 : Shape := ⟨2, ![1024, 256]⟩
abbrev S256x771 : Shape := ⟨2, ![256, 771]⟩
abbrev S4x64x771 : Shape := ⟨3, ![4, 64, 771]⟩
abbrev S4x64x1 : Shape := ⟨3, ![4, 64, 1]⟩
abbrev S_ : Shape := ⟨0, ![]⟩
abbrev S4x64 : Shape := ⟨2, ![4, 64]⟩
abbrev S1x256x1024 : Shape := ⟨3, ![1, 256, 1024]⟩
abbrev S4x256x1024 : Shape := ⟨3, ![4, 256, 1024]⟩
abbrev S1x1024x256 : Shape := ⟨3, ![1, 1024, 256]⟩
abbrev S4x1024x256 : Shape := ⟨3, ![4, 1024, 256]⟩
abbrev S64x4x256 : Shape := ⟨3, ![64, 4, 256]⟩
abbrev S64x4x1 : Shape := ⟨3, ![64, 4, 1]⟩
abbrev S1x4x256 : Shape := ⟨3, ![1, 4, 256]⟩
abbrev S4x256 : Shape := ⟨2, ![4, 256]⟩
abbrev S1x4x1 : Shape := ⟨3, ![1, 4, 1]⟩
abbrev S4x1 : Shape := ⟨2, ![4, 1]⟩
abbrev S4x1x256 : Shape := ⟨3, ![4, 1, 256]⟩
abbrev S4x1x1024 : Shape := ⟨3, ![4, 1, 1024]⟩
abbrev S4 : Shape := ⟨1, ![4]⟩
abbrev S256 : Shape := ⟨1, ![256]⟩
abbrev S1x256 : Shape := ⟨2, ![1, 256]⟩
abbrev S4x1x1 : Shape := ⟨3, ![4, 1, 1]⟩
abbrev S4x1024 : Shape := ⟨2, ![4, 1024]⟩
abbrev S4x64x1x256 : Shape := ⟨4, ![4, 64, 1, 256]⟩

abbrev nBuf : Space → Nat
  | .hbm => 288
  | .vmem => 0
  | .smem => 0
  | _ => 0

abbrev hbmTy0_0 (i : Nat) : BufTy := match i % 128 with
  | 0 => ⟨S4x64x256, .f32⟩
  | 1 => ⟨S771x256, .f32⟩
  | 2 => ⟨S256x1024, .f32⟩
  | 3 => ⟨S1024x256, .f32⟩
  | 4 => ⟨S256x1024, .f32⟩
  | 5 => ⟨S1024x256, .f32⟩
  | 6 => ⟨S256x771, .f32⟩
  | 7 => ⟨S4x64x771, .f32⟩
  | 8 => ⟨S4x64x256, .f32⟩
  | 9 => ⟨S4x64x256, .f32⟩
  | 10 => ⟨S4x64x256, .f32⟩
  | 11 => ⟨S4x64x1, .f32⟩
  | 12 => ⟨S4x64x1, .f32⟩
  | 13 => ⟨S4x64x1, .f32⟩
  | 14 => ⟨S4x64x256, .f32⟩
  | 15 => ⟨S4x64x256, .f32⟩
  | 16 => ⟨S_, .f32⟩
  | 17 => ⟨S4x64x256, .f32⟩
  | 18 => ⟨S4x64x256, .f32⟩
  | 19 => ⟨S_, .f32⟩
  | 20 => ⟨S4x64x256, .f32⟩
  | 21 => ⟨S4x64x256, .f32⟩
  | 22 => ⟨S4x64x256, .f32⟩
  | 23 => ⟨S4x64x256, .f32⟩
  | 24 => ⟨S_, .f32⟩
  | 25 => ⟨S4x64, .f32⟩
  | 26 => ⟨S4x64x1, .f32⟩
  | 27 => ⟨S4x64x1, .f32⟩
  | 28 => ⟨S_, .f32⟩
  | 29 => ⟨S4x64x1, .f32⟩
  | 30 => ⟨S4x64x1, .f32⟩
  | 31 => ⟨S4x64x256, .f32⟩
  | 32 => ⟨S4x64x256, .f32⟩
  | 33 => ⟨S4x64x256, .f32⟩
  | 34 => ⟨S4x64x256, .f32⟩
  | 35 => ⟨S_, .f32⟩
  | 36 => ⟨S4x64x256, .f32⟩
  | 37 => ⟨S4x64x256, .f32⟩
  | 38 => ⟨S_, .f32⟩
  | 39 => ⟨S4x64x256, .f32⟩
  | 40 => ⟨S4x64x256, .f32⟩
  | 41 => ⟨S4x64x256, .f32⟩
  | 42 => ⟨S4x64x256, .f32⟩
  | 43 => ⟨S_, .f32⟩
  | 44 => ⟨S4x64, .f32⟩
  | 45 => ⟨S4x64x1, .f32⟩
  | 46 => ⟨S4x64x1, .f32⟩
  | 47 => ⟨S_, .f32⟩
  | 48 => ⟨S4x64x1, .f32⟩
  | 49 => ⟨S4x64x1, .f32⟩
  | 50 => ⟨S4x64x256, .f32⟩
  | 51 => ⟨S4x64x256, .f32⟩
  | 52 => ⟨S4x64x256, .f32⟩
  | 53 => ⟨S4x64x256, .f32⟩
  | 54 => ⟨S_, .f32⟩
  | 55 => ⟨S4x64x256, .f32⟩
  | 56 => ⟨S4x64x256, .f32⟩
  | 57 => ⟨S_, .f32⟩
  | 58 => ⟨S4x64x256, .f32⟩
  | 59 => ⟨S4x64x256, .f32⟩
  | 60 => ⟨S4x64x256, .f32⟩
  | 61 => ⟨S4x64x1, .f32⟩
  | 62 => ⟨S4x64x1, .f32⟩
  | 63 => ⟨S_, .f32⟩
  | 64 => ⟨S4x64x1, .f32⟩
  | 65 => ⟨S4x64x1, .f32⟩
  | 66 => ⟨S_, .f32⟩
  | 67 => ⟨S4x64x1, .f32⟩
  | 68 => ⟨S4x64x1, .f32⟩
  | 69 => ⟨S4x64x1, .f32⟩
  | 70 => ⟨S4x64x1, .f32⟩
  | 71 => ⟨S_, .f32⟩
  | 72 => ⟨S4x64x1, .f32⟩
  | 73 => ⟨S4x64x1, .f32⟩
  | 74 => ⟨S_, .f32⟩
  | 75 => ⟨S4x64x1, .f32⟩
  | 76 => ⟨S4x64x1, .f32⟩
  | 77 => ⟨S_, .f32⟩
  | 78 => ⟨S4x64x1, .f32⟩
  | 79 => ⟨S4x64x1, .f32⟩
  | 80 => ⟨S4x64x1, .f32⟩
  | 81 => ⟨S4x64x1, .f32⟩
  | 82 => ⟨S_, .f32⟩
  | 83 => ⟨S4x64x1, .f32⟩
  | 84 => ⟨S4x64x1, .f32⟩
  | 85 => ⟨S_, .f32⟩
  | 86 => ⟨S4x64x1, .f32⟩
  | 87 => ⟨S4x64x1, .f32⟩
  | 88 => ⟨S1x256x1024, .f32⟩
  | 89 => ⟨S4x256x1024, .f32⟩
  | 90 => ⟨S1x1024x256, .f32⟩
  | 91 => ⟨S4x1024x256, .f32⟩
  | 92 => ⟨S1x256x1024, .f32⟩
  | 93 => ⟨S4x256x1024, .f32⟩
  | 94 => ⟨S1x1024x256, .f32⟩
  | 95 => ⟨S4x1024x256, .f32⟩
  | 96 => ⟨S_, .f32⟩
  | 97 => ⟨S4x256x1024, .f32⟩
  | 98 => ⟨S_, .f32⟩
  | 99 => ⟨S4x1024x256, .f32⟩
  | 100 => ⟨S_, .f32⟩
  | 101 => ⟨S4x256x1024, .f32⟩
  | 102 => ⟨S_, .f32⟩
  | 103 => ⟨S4x1024x256, .f32⟩
  | 104 => ⟨S64x4x256, .f32⟩
  | 105 => ⟨S64x4x256, .f32⟩
  | 106 => ⟨S64x4x256, .f32⟩
  | 107 => ⟨S64x4x1, .f32⟩
  | 108 => ⟨S64x4x1, .f32⟩
  | 109 => ⟨S64x4x1, .f32⟩
  | 110 => ⟨S_, .f32⟩
  | 111 => ⟨S64x4x256, .f32⟩
  | 112 => ⟨S_, .i32⟩
  | 113 => ⟨S64x4x256, .f32⟩
  | 114 => ⟨S64x4x256, .f32⟩
  | 115 => ⟨S64x4x256, .f32⟩
  | 116 => ⟨S64x4x1, .f32⟩
  | 117 => ⟨S64x4x1, .f32⟩
  | 118 => ⟨S64x4x1, .f32⟩
  | 119 => ⟨S_, .i32⟩
  | 120 => ⟨S4x256x1024, .f32⟩
  | 121 => ⟨S4x1024x256, .f32⟩
  | 122 => ⟨S4x256x1024, .f32⟩
  | 123 => ⟨S4x1024x256, .f32⟩
  | 124 => ⟨S4x256x1024, .f32⟩
  | 125 => ⟨S4x1024x256, .f32⟩
  | 126 => ⟨S4x256x1024, .f32⟩
  | 127 => ⟨S4x1024x256, .f32⟩
  | _ => ⟨S4x64x256, .f32⟩

abbrev hbmTy0_1 (i : Nat) : BufTy := match i % 128 with
  | 0 => ⟨S64x4x256, .f32⟩
  | 1 => ⟨S_, .i32⟩
  | 2 => ⟨S_, .i1⟩
  | 3 => ⟨S_, .i32⟩
  | 4 => ⟨S_, .i32⟩
  | 5 => ⟨S1x4x256, .f32⟩
  | 6 => ⟨S4x256, .f32⟩
  | 7 => ⟨S_, .i32⟩
  | 8 => ⟨S_, .i32⟩
  | 9 => ⟨S1x4x256, .f32⟩
  | 10 => ⟨S4x256, .f32⟩
  | 11 => ⟨S_, .i32⟩
  | 12 => ⟨S_, .i32⟩
  | 13 => ⟨S1x4x256, .f32⟩
  | 14 => ⟨S4x256, .f32⟩
  | 15 => ⟨S_, .i32⟩
  | 16 => ⟨S_, .i32⟩
  | 17 => ⟨S1x4x1, .f32⟩
  | 18 => ⟨S4x1, .f32⟩
  | 19 => ⟨S_, .i32⟩
  | 20 => ⟨S_, .i32⟩
  | 21 => ⟨S1x4x1, .f32⟩
  | 22 => ⟨S4x1, .f32⟩
  | 23 => ⟨S_, .i32⟩
  | 24 => ⟨S_, .i32⟩
  | 25 => ⟨S1x4x1, .f32⟩
  | 26 => ⟨S4x1, .f32⟩
  | 27 => ⟨S4x1x256, .f32⟩
  | 28 => ⟨S4x1x1024, .f32⟩
  | 29 => ⟨S4x1x1024, .f32⟩
  | 30 => ⟨S4x1x1024, .f32⟩
  | 31 => ⟨S4x1x1024, .f32⟩
  | 32 => ⟨S4x1x1024, .f32⟩
  | 33 => ⟨S_, .f32⟩
  | 34 => ⟨S4x1x1024, .f32⟩
  | 35 => ⟨S4x1x1024, .f32⟩
  | 36 => ⟨S_, .f32⟩
  | 37 => ⟨S4x1x1024, .f32⟩
  | 38 => ⟨S4x1x1024, .f32⟩
  | 39 => ⟨S_, .f32⟩
  | 40 => ⟨S4x1x1024, .f32⟩
  | 41 => ⟨S4x1x1024, .f32⟩
  | 42 => ⟨S4x1x1024, .f32⟩
  | 43 => ⟨S4x1x1024, .f32⟩
  | 44 => ⟨S4x1x256, .f32⟩
  | 45 => ⟨S4x1x256, .f32⟩
  | 46 => ⟨S4x1x256, .f32⟩
  | 47 => ⟨S4x256, .f32⟩
  | 48 => ⟨S4x256, .f32⟩
  | 49 => ⟨S4x256, .f32⟩
  | 50 => ⟨S_, .f32⟩
  | 51 => ⟨S4x256, .f32⟩
  | 52 => ⟨S4x256, .f32⟩
  | 53 => ⟨S_, .f32⟩
  | 54 => ⟨S4, .f32⟩
  | 55 => ⟨S_, .f32⟩
  | 56 => ⟨S4, .f32⟩
  | 57 => ⟨S4, .f32⟩
  | 58 => ⟨S_, .f32⟩
  | 59 => ⟨S_, .f32⟩
  | 60 => ⟨S_, .f32⟩
  | 61 => ⟨S256, .f32⟩
  | 62 => ⟨S1x256, .f32⟩
  | 63 => ⟨S4x256, .f32⟩
  | 64 => ⟨S4x256, .f32⟩
  | 65 => ⟨S4x1x256, .f32⟩
  | 66 => ⟨S4x256x1024, .f32⟩
  | 67 => ⟨S4x1024x256, .f32⟩
  | 68 => ⟨S4x1x1024, .f32⟩
  | 69 => ⟨S4x256x1024, .f32⟩
  | 70 => ⟨S4x1024x256, .f32⟩
  | 71 => ⟨S4x1x1024, .f32⟩
  | 72 => ⟨S4x1x1024, .f32⟩
  | 73 => ⟨S4x1x1024, .f32⟩
  | 74 => ⟨S4x1x1024, .f32⟩
  | 75 => ⟨S4x1x1024, .f32⟩
  | 76 => ⟨S4x1x1024, .f32⟩
  | 77 => ⟨S4x1024x256, .f32⟩
  | 78 => ⟨S4x256x1024, .f32⟩
  | 79 => ⟨S4x1024x256, .f32⟩
  | 80 => ⟨S4x256x1024, .f32⟩
  | 81 => ⟨S4x1x1, .f32⟩
  | 82 => ⟨S4x256x1024, .f32⟩
  | 83 => ⟨S4x256x1024, .f32⟩
  | 84 => ⟨S4x1x1, .f32⟩
  | 85 => ⟨S4x256x1024, .f32⟩
  | 86 => ⟨S4x256x1024, .f32⟩
  | 87 => ⟨S4x256x1024, .f32⟩
  | 88 => ⟨S4x1x1, .f32⟩
  | 89 => ⟨S4x1024x256, .f32⟩
  | 90 => ⟨S4x1024x256, .f32⟩
  | 91 => ⟨S4x1x1, .f32⟩
  | 92 => ⟨S4x1024x256, .f32⟩
  | 93 => ⟨S4x1024x256, .f32⟩
  | 94 => ⟨S4x1024x256, .f32⟩
  | 95 => ⟨S4x1x1, .f32⟩
  | 96 => ⟨S4x256x1024, .f32⟩
  | 97 => ⟨S4x256x1024, .f32⟩
  | 98 => ⟨S4x1x1, .f32⟩
  | 99 => ⟨S4x256x1024, .f32⟩
  | 100 => ⟨S4x256x1024, .f32⟩
  | 101 => ⟨S4x256x1024, .f32⟩
  | 102 => ⟨S4x1x1, .f32⟩
  | 103 => ⟨S4x1024x256, .f32⟩
  | 104 => ⟨S4x1024x256, .f32⟩
  | 105 => ⟨S4x1x1, .f32⟩
  | 106 => ⟨S4x1024x256, .f32⟩
  | 107 => ⟨S4x1024x256, .f32⟩
  | 108 => ⟨S4x1024x256, .f32⟩
  | 109 => ⟨S4x1x1, .f32⟩
  | 110 => ⟨S_, .f32⟩
  | 111 => ⟨S4x1x1, .f32⟩
  | 112 => ⟨S4x1x1, .f32⟩
  | 113 => ⟨S4x256x1024, .f32⟩
  | 114 => ⟨S4x256x1024, .f32⟩
  | 115 => ⟨S4x256x1024, .f32⟩
  | 116 => ⟨S4x1x1, .f32⟩
  | 117 => ⟨S_, .f32⟩
  | 118 => ⟨S4x1x1, .f32⟩
  | 119 => ⟨S4x1x1, .f32⟩
  | 120 => ⟨S4x1024x256, .f32⟩
  | 121 => ⟨S4x1024x256, .f32⟩
  | 122 => ⟨S4x1024x256, .f32⟩
  | 123 => ⟨S4x1x1, .f32⟩
  | 124 => ⟨S_, .f32⟩
  | 125 => ⟨S4x1x1, .f32⟩
  | 126 => ⟨S4x1x1, .f32⟩
  | 127 => ⟨S4x256x1024, .f32⟩
  | _ => ⟨S4x64x256, .f32⟩

abbrev hbmTy0_2 (i : Nat) : BufTy := match i % 128 with
  | 0 => ⟨S4x256x1024, .f32⟩
  | 1 => ⟨S4x256x1024, .f32⟩
  | 2 => ⟨S4x1x1, .f32⟩
  | 3 => ⟨S_, .f32⟩
  | 4 => ⟨S4x1x1, .f32⟩
  | 5 => ⟨S4x1x1, .f32⟩
  | 6 => ⟨S4x1024x256, .f32⟩
  | 7 => ⟨S4x1024x256, .f32⟩
  | 8 => ⟨S4x1024x256, .f32⟩
  | 9 => ⟨S4x1024, .f32⟩
  | 10 => ⟨S4x1024, .f32⟩
  | 11 => ⟨S4x1024, .f32⟩
  | 12 => ⟨S4x1024, .f32⟩
  | 13 => ⟨S4x1024, .f32⟩
  | 14 => ⟨S_, .f32⟩
  | 15 => ⟨S4x1024, .f32⟩
  | 16 => ⟨S4x1024, .f32⟩
  | 17 => ⟨S_, .f32⟩
  | 18 => ⟨S4x1024, .f32⟩
  | 19 => ⟨S4x1024, .f32⟩
  | 20 => ⟨S4x1024, .f32⟩
  | 21 => ⟨S4x256, .f32⟩
  | 22 => ⟨S4x256, .f32⟩
  | 23 => ⟨S4x256, .f32⟩
  | 24 => ⟨S1x4x256, .f32⟩
  | 25 => ⟨S_, .i32⟩
  | 26 => ⟨S_, .i32⟩
  | 27 => ⟨S64x4x256, .f32⟩
  | 28 => ⟨S_, .i32⟩
  | 29 => ⟨S_, .i32⟩
  | 30 => ⟨S4x64x256, .f32⟩
  | 31 => ⟨S4x64x1x256, .f32⟩
  | _ => ⟨S4x64x256, .f32⟩

abbrev hbmTy (i : Nat) : BufTy := match i / 128 with
  | 0 => hbmTy0_0 i
  | 1 => hbmTy0_1 i
  | 2 => hbmTy0_2 i
  | _ => ⟨S4x64x256, .f32⟩

abbrev bufTy : (tb : Table) → Fin (tcTables nBuf tb) → BufTy
  | .hbm, ⟨i, _⟩ => hbmTy i
  | _, _ => ⟨S4x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v8 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call2_v0 : Ref sig .tc := ⟨.hbm, 33, rfl⟩
abbrev main_call2_v1 : Ref sig .tc := ⟨.hbm, 34, rfl⟩
abbrev main_call2_cst : Ref sig .tc := ⟨.hbm, 35, rfl⟩
abbrev main_call2_v2 : Ref sig .tc := ⟨.hbm, 36, rfl⟩
abbrev main_call2_v3 : Ref sig .tc := ⟨.hbm, 37, rfl⟩
abbrev main_call2_cst_0 : Ref sig .tc := ⟨.hbm, 38, rfl⟩
abbrev main_call2_v4 : Ref sig .tc := ⟨.hbm, 39, rfl⟩
abbrev main_call2_v5 : Ref sig .tc := ⟨.hbm, 40, rfl⟩
abbrev main_v14 : Ref sig .tc := ⟨.hbm, 41, rfl⟩
abbrev main_call3_v0 : Ref sig .tc := ⟨.hbm, 42, rfl⟩
abbrev main_call3_cst : Ref sig .tc := ⟨.hbm, 43, rfl⟩
abbrev main_call3_v1 : Ref sig .tc := ⟨.hbm, 44, rfl⟩
abbrev main_call3_v2 : Ref sig .tc := ⟨.hbm, 45, rfl⟩
abbrev main_v15 : Ref sig .tc := ⟨.hbm, 46, rfl⟩
abbrev main_cst_0 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_call4_v0 : Ref sig .tc := ⟨.hbm, 52, rfl⟩
abbrev main_call4_v1 : Ref sig .tc := ⟨.hbm, 53, rfl⟩
abbrev main_call4_cst : Ref sig .tc := ⟨.hbm, 54, rfl⟩
abbrev main_call4_v2 : Ref sig .tc := ⟨.hbm, 55, rfl⟩
abbrev main_call4_v3 : Ref sig .tc := ⟨.hbm, 56, rfl⟩
abbrev main_call4_cst_0 : Ref sig .tc := ⟨.hbm, 57, rfl⟩
abbrev main_call4_v4 : Ref sig .tc := ⟨.hbm, 58, rfl⟩
abbrev main_call4_v5 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_1 : Ref sig .tc := ⟨.hbm, 63, rfl⟩
abbrev main_v23 : Ref sig .tc := ⟨.hbm, 64, rfl⟩
abbrev main_v24 : Ref sig .tc := ⟨.hbm, 65, rfl⟩
abbrev main_cst_2 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_cst_3 : Ref sig .tc := ⟨.hbm, 71, rfl⟩
abbrev main_v29 : Ref sig .tc := ⟨.hbm, 72, rfl⟩
abbrev main_v30 : Ref sig .tc := ⟨.hbm, 73, rfl⟩
abbrev main_cst_4 : Ref sig .tc := ⟨.hbm, 74, rfl⟩
abbrev main_v31 : Ref sig .tc := ⟨.hbm, 75, rfl⟩
abbrev main_v32 : Ref sig .tc := ⟨.hbm, 76, rfl⟩
abbrev main_cst_5 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_cst_6 : Ref sig .tc := ⟨.hbm, 82, rfl⟩
abbrev main_v37 : Ref sig .tc := ⟨.hbm, 83, rfl⟩
abbrev main_v38 : Ref sig .tc := ⟨.hbm, 84, rfl⟩
abbrev main_cst_7 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_cst_8 : Ref sig .tc := ⟨.hbm, 96, rfl⟩
abbrev main_v49 : Ref sig .tc := ⟨.hbm, 97, rfl⟩
abbrev main_cst_9 : Ref sig .tc := ⟨.hbm, 98, rfl⟩
abbrev main_v50 : Ref sig .tc := ⟨.hbm, 99, rfl⟩
abbrev main_cst_10 : Ref sig .tc := ⟨.hbm, 100, rfl⟩
abbrev main_v51 : Ref sig .tc := ⟨.hbm, 101, rfl⟩
abbrev main_cst_11 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_cst_12 : Ref sig .tc := ⟨.hbm, 110, rfl⟩
abbrev main_v59 : Ref sig .tc := ⟨.hbm, 111, rfl⟩
abbrev main_c : Ref sig .tc := ⟨.hbm, 112, rfl⟩
abbrev main_v60_0 : Ref sig .tc := ⟨.hbm, 113, rfl⟩
abbrev main_v60_1 : Ref sig .tc := ⟨.hbm, 114, rfl⟩
abbrev main_v60_2 : Ref sig .tc := ⟨.hbm, 115, rfl⟩
abbrev main_v60_3 : Ref sig .tc := ⟨.hbm, 116, rfl⟩
abbrev main_v60_4 : Ref sig .tc := ⟨.hbm, 117, rfl⟩
abbrev main_v60_5 : Ref sig .tc := ⟨.hbm, 118, rfl⟩
abbrev main_v60_6 : Ref sig .tc := ⟨.hbm, 119, rfl⟩
abbrev main_v60_7 : Ref sig .tc := ⟨.hbm, 120, rfl⟩
abbrev main_v60_8 : Ref sig .tc := ⟨.hbm, 121, rfl⟩
abbrev main_v60_9 : Ref sig .tc := ⟨.hbm, 122, rfl⟩
abbrev main_v60_10 : Ref sig .tc := ⟨.hbm, 123, rfl⟩
abbrev main_v60_11 : Ref sig .tc := ⟨.hbm, 124, rfl⟩
abbrev main_v60_12 : Ref sig .tc := ⟨.hbm, 125, rfl⟩
abbrev main_v60_13 : Ref sig .tc := ⟨.hbm, 126, rfl⟩
abbrev main_v60_14 : Ref sig .tc := ⟨.hbm, 127, rfl⟩
abbrev main_v60_15 : Ref sig .tc := ⟨.hbm, 128, rfl⟩
abbrev main_while0c_c_28 : Ref sig .tc := ⟨.hbm, 129, rfl⟩
abbrev main_while0c_v63 : Ref sig .tc := ⟨.hbm, 130, rfl⟩
abbrev main_while0b_call5_c : Ref sig .tc := ⟨.hbm, 131, rfl⟩
abbrev main_while0b_call5_c_0 : Ref sig .tc := ⟨.hbm, 132, rfl⟩
abbrev main_while0b_call5_v0 : Ref sig .tc := ⟨.hbm, 133, rfl⟩
abbrev main_while0b_v63 : Ref sig .tc := ⟨.hbm, 134, rfl⟩
abbrev main_while0b_call6_c : Ref sig .tc := ⟨.hbm, 135, rfl⟩
abbrev main_while0b_call6_c_0 : Ref sig .tc := ⟨.hbm, 136, rfl⟩
abbrev main_while0b_call6_v0 : Ref sig .tc := ⟨.hbm, 137, rfl⟩
abbrev main_while0b_v64 : Ref sig .tc := ⟨.hbm, 138, rfl⟩
abbrev main_while0b_call7_c : Ref sig .tc := ⟨.hbm, 139, rfl⟩
abbrev main_while0b_call7_c_0 : Ref sig .tc := ⟨.hbm, 140, rfl⟩
abbrev main_while0b_call7_v0 : Ref sig .tc := ⟨.hbm, 141, rfl⟩
abbrev main_while0b_v65 : Ref sig .tc := ⟨.hbm, 142, rfl⟩
abbrev main_while0b_call8_c : Ref sig .tc := ⟨.hbm, 143, rfl⟩
abbrev main_while0b_call8_c_0 : Ref sig .tc := ⟨.hbm, 144, rfl⟩
abbrev main_while0b_call8_v0 : Ref sig .tc := ⟨.hbm, 145, rfl⟩
abbrev main_while0b_v66 : Ref sig .tc := ⟨.hbm, 146, rfl⟩
abbrev main_while0b_call9_c : Ref sig .tc := ⟨.hbm, 147, rfl⟩
abbrev main_while0b_call9_c_0 : Ref sig .tc := ⟨.hbm, 148, rfl⟩
abbrev main_while0b_call9_v0 : Ref sig .tc := ⟨.hbm, 149, rfl⟩
abbrev main_while0b_v67 : Ref sig .tc := ⟨.hbm, 150, rfl⟩
abbrev main_while0b_call10_c : Ref sig .tc := ⟨.hbm, 151, rfl⟩
abbrev main_while0b_call10_c_0 : Ref sig .tc := ⟨.hbm, 152, rfl⟩
abbrev main_while0b_call10_v0 : Ref sig .tc := ⟨.hbm, 153, rfl⟩
abbrev main_while0b_v68 : Ref sig .tc := ⟨.hbm, 154, rfl⟩
abbrev main_while0b_v69 : Ref sig .tc := ⟨.hbm, 155, rfl⟩
abbrev main_while0b_v70 : Ref sig .tc := ⟨.hbm, 156, rfl⟩
abbrev main_while0b_v71 : Ref sig .tc := ⟨.hbm, 157, rfl⟩
abbrev main_while0b_v72 : Ref sig .tc := ⟨.hbm, 158, rfl⟩
abbrev main_while0b_call11_v0 : Ref sig .tc := ⟨.hbm, 159, rfl⟩
abbrev main_while0b_call11_v1 : Ref sig .tc := ⟨.hbm, 160, rfl⟩
abbrev main_while0b_call11_cst : Ref sig .tc := ⟨.hbm, 161, rfl⟩
abbrev main_while0b_call11_v2 : Ref sig .tc := ⟨.hbm, 162, rfl⟩
abbrev main_while0b_call11_v3 : Ref sig .tc := ⟨.hbm, 163, rfl⟩
abbrev main_while0b_call11_cst_0 : Ref sig .tc := ⟨.hbm, 164, rfl⟩
abbrev main_while0b_call11_v4 : Ref sig .tc := ⟨.hbm, 165, rfl⟩
abbrev main_while0b_v73_2 : Ref sig .tc := ⟨.hbm, 166, rfl⟩
abbrev main_while0b_call11_cst_1 : Ref sig .tc := ⟨.hbm, 167, rfl⟩
abbrev main_while0b_call11_v6 : Ref sig .tc := ⟨.hbm, 168, rfl⟩
abbrev main_while0b_call11_v7 : Ref sig .tc := ⟨.hbm, 169, rfl⟩
abbrev main_while0b_v73_1 : Ref sig .tc := ⟨.hbm, 170, rfl⟩
abbrev main_while0b_v73_0 : Ref sig .tc := ⟨.hbm, 171, rfl⟩
abbrev main_while0b_v74 : Ref sig .tc := ⟨.hbm, 172, rfl⟩
abbrev main_while0b_v75 : Ref sig .tc := ⟨.hbm, 173, rfl⟩
abbrev main_while0b_v76 : Ref sig .tc := ⟨.hbm, 174, rfl⟩
abbrev main_while0b_v77 : Ref sig .tc := ⟨.hbm, 175, rfl⟩
abbrev main_while0b_v78 : Ref sig .tc := ⟨.hbm, 176, rfl⟩
abbrev main_while0b_v79 : Ref sig .tc := ⟨.hbm, 177, rfl⟩
abbrev main_while0b_cst_28 : Ref sig .tc := ⟨.hbm, 178, rfl⟩
abbrev main_while0b_v80 : Ref sig .tc := ⟨.hbm, 179, rfl⟩
abbrev main_while0b_v81 : Ref sig .tc := ⟨.hbm, 180, rfl⟩
abbrev main_while0b_cst_29 : Ref sig .tc := ⟨.hbm, 181, rfl⟩
abbrev main_while0b_v82 : Ref sig .tc := ⟨.hbm, 182, rfl⟩
abbrev main_while0b_cst_30 : Ref sig .tc := ⟨.hbm, 183, rfl⟩
abbrev main_while0b_v83 : Ref sig .tc := ⟨.hbm, 184, rfl⟩
abbrev main_while0b_v84 : Ref sig .tc := ⟨.hbm, 185, rfl⟩
abbrev main_while0b_cst_31 : Ref sig .tc := ⟨.hbm, 186, rfl⟩
abbrev main_while0b_cst_32 : Ref sig .tc := ⟨.hbm, 187, rfl⟩
abbrev main_while0b_v85 : Ref sig .tc := ⟨.hbm, 188, rfl⟩
abbrev main_while0b_v86 : Ref sig .tc := ⟨.hbm, 189, rfl⟩
abbrev main_while0b_v87 : Ref sig .tc := ⟨.hbm, 190, rfl⟩
abbrev main_while0b_v88 : Ref sig .tc := ⟨.hbm, 191, rfl⟩
abbrev main_while0b_v89 : Ref sig .tc := ⟨.hbm, 192, rfl⟩
abbrev main_while0b_v90 : Ref sig .tc := ⟨.hbm, 193, rfl⟩
abbrev main_while0b_v91 : Ref sig .tc := ⟨.hbm, 194, rfl⟩
abbrev main_while0b_v92 : Ref sig .tc := ⟨.hbm, 195, rfl⟩
abbrev main_while0b_v93 : Ref sig .tc := ⟨.hbm, 196, rfl⟩
abbrev main_while0b_v94 : Ref sig .tc := ⟨.hbm, 197, rfl⟩
abbrev main_while0b_v95 : Ref sig .tc := ⟨.hbm, 198, rfl⟩
abbrev main_while0b_v96 : Ref sig .tc := ⟨.hbm, 199, rfl⟩
abbrev main_while0b_v97 : Ref sig .tc := ⟨.hbm, 200, rfl⟩
abbrev main_while0b_call12_v0 : Ref sig .tc := ⟨.hbm, 201, rfl⟩
abbrev main_while0b_call12_v1 : Ref sig .tc := ⟨.hbm, 202, rfl⟩
abbrev main_while0b_call12_v2 : Ref sig .tc := ⟨.hbm, 203, rfl⟩
abbrev main_while0b_v98 : Ref sig .tc := ⟨.hbm, 204, rfl⟩
abbrev main_while0b_v99 : Ref sig .tc := ⟨.hbm, 205, rfl⟩
abbrev main_while0b_v100 : Ref sig .tc := ⟨.hbm, 206, rfl⟩
abbrev main_while0b_v101 : Ref sig .tc := ⟨.hbm, 207, rfl⟩
abbrev main_while0b_v102 : Ref sig .tc := ⟨.hbm, 208, rfl⟩
abbrev main_while0b_v103 : Ref sig .tc := ⟨.hbm, 209, rfl⟩
abbrev main_while0b_v104 : Ref sig .tc := ⟨.hbm, 210, rfl⟩
abbrev main_while0b_v105 : Ref sig .tc := ⟨.hbm, 211, rfl⟩
abbrev main_while0b_v106 : Ref sig .tc := ⟨.hbm, 212, rfl⟩
abbrev main_while0b_v107 : Ref sig .tc := ⟨.hbm, 213, rfl⟩
abbrev main_while0b_v108 : Ref sig .tc := ⟨.hbm, 214, rfl⟩
abbrev main_while0b_v109 : Ref sig .tc := ⟨.hbm, 215, rfl⟩
abbrev main_while0b_v110 : Ref sig .tc := ⟨.hbm, 216, rfl⟩
abbrev main_while0b_v111 : Ref sig .tc := ⟨.hbm, 217, rfl⟩
abbrev main_while0b_v112 : Ref sig .tc := ⟨.hbm, 218, rfl⟩
abbrev main_while0b_v113 : Ref sig .tc := ⟨.hbm, 219, rfl⟩
abbrev main_while0b_v114 : Ref sig .tc := ⟨.hbm, 220, rfl⟩
abbrev main_while0b_v115 : Ref sig .tc := ⟨.hbm, 221, rfl⟩
abbrev main_while0b_v116 : Ref sig .tc := ⟨.hbm, 222, rfl⟩
abbrev main_while0b_v117 : Ref sig .tc := ⟨.hbm, 223, rfl⟩
abbrev main_while0b_v118 : Ref sig .tc := ⟨.hbm, 224, rfl⟩
abbrev main_while0b_v119 : Ref sig .tc := ⟨.hbm, 225, rfl⟩
abbrev main_while0b_v120 : Ref sig .tc := ⟨.hbm, 226, rfl⟩
abbrev main_while0b_v121 : Ref sig .tc := ⟨.hbm, 227, rfl⟩
abbrev main_while0b_v122 : Ref sig .tc := ⟨.hbm, 228, rfl⟩
abbrev main_while0b_v123 : Ref sig .tc := ⟨.hbm, 229, rfl⟩
abbrev main_while0b_v124 : Ref sig .tc := ⟨.hbm, 230, rfl⟩
abbrev main_while0b_v125 : Ref sig .tc := ⟨.hbm, 231, rfl⟩
abbrev main_while0b_v126 : Ref sig .tc := ⟨.hbm, 232, rfl⟩
abbrev main_while0b_v127 : Ref sig .tc := ⟨.hbm, 233, rfl⟩
abbrev main_while0b_v128 : Ref sig .tc := ⟨.hbm, 234, rfl⟩
abbrev main_while0b_v129 : Ref sig .tc := ⟨.hbm, 235, rfl⟩
abbrev main_while0b_v130 : Ref sig .tc := ⟨.hbm, 236, rfl⟩
abbrev main_while0b_v131 : Ref sig .tc := ⟨.hbm, 237, rfl⟩
abbrev main_while0b_cst_33 : Ref sig .tc := ⟨.hbm, 238, rfl⟩
abbrev main_while0b_v132 : Ref sig .tc := ⟨.hbm, 239, rfl⟩
abbrev main_while0b_v133 : Ref sig .tc := ⟨.hbm, 240, rfl⟩
abbrev main_while0b_v134 : Ref sig .tc := ⟨.hbm, 241, rfl⟩
abbrev main_while0b_v135 : Ref sig .tc := ⟨.hbm, 242, rfl⟩
abbrev main_while0b_v136 : Ref sig .tc := ⟨.hbm, 243, rfl⟩
abbrev main_while0b_v137 : Ref sig .tc := ⟨.hbm, 244, rfl⟩
abbrev main_while0b_cst_34 : Ref sig .tc := ⟨.hbm, 245, rfl⟩
abbrev main_while0b_v138 : Ref sig .tc := ⟨.hbm, 246, rfl⟩
abbrev main_while0b_v139 : Ref sig .tc := ⟨.hbm, 247, rfl⟩
abbrev main_while0b_v140 : Ref sig .tc := ⟨.hbm, 248, rfl⟩
abbrev main_while0b_v141 : Ref sig .tc := ⟨.hbm, 249, rfl⟩
abbrev main_while0b_v142 : Ref sig .tc := ⟨.hbm, 250, rfl⟩
abbrev main_while0b_v143 : Ref sig .tc := ⟨.hbm, 251, rfl⟩
abbrev main_while0b_cst_35 : Ref sig .tc := ⟨.hbm, 252, rfl⟩
abbrev main_while0b_v144 : Ref sig .tc := ⟨.hbm, 253, rfl⟩
abbrev main_while0b_v145 : Ref sig .tc := ⟨.hbm, 254, rfl⟩
abbrev main_while0b_v146 : Ref sig .tc := ⟨.hbm, 255, rfl⟩
abbrev main_while0b_v147 : Ref sig .tc := ⟨.hbm, 256, rfl⟩
abbrev main_while0b_v148 : Ref sig .tc := ⟨.hbm, 257, rfl⟩
abbrev main_while0b_v149 : Ref sig .tc := ⟨.hbm, 258, rfl⟩
abbrev main_while0b_cst_36 : Ref sig .tc := ⟨.hbm, 259, rfl⟩
abbrev main_while0b_v150 : Ref sig .tc := ⟨.hbm, 260, rfl⟩
abbrev main_while0b_v151 : Ref sig .tc := ⟨.hbm, 261, rfl⟩
abbrev main_while0b_v152 : Ref sig .tc := ⟨.hbm, 262, rfl⟩
abbrev main_while0b_v153 : Ref sig .tc := ⟨.hbm, 263, rfl⟩
abbrev main_while0b_v154 : Ref sig .tc := ⟨.hbm, 264, rfl⟩
abbrev main_while0b_v155 : Ref sig .tc := ⟨.hbm, 265, rfl⟩
abbrev main_while0b_v156 : Ref sig .tc := ⟨.hbm, 266, rfl⟩
abbrev main_while0b_v157 : Ref sig .tc := ⟨.hbm, 267, rfl⟩
abbrev main_while0b_call13_v0 : Ref sig .tc := ⟨.hbm, 268, rfl⟩
abbrev main_while0b_call13_v1 : Ref sig .tc := ⟨.hbm, 269, rfl⟩
abbrev main_while0b_call13_cst : Ref sig .tc := ⟨.hbm, 270, rfl⟩
abbrev main_while0b_call13_v2 : Ref sig .tc := ⟨.hbm, 271, rfl⟩
abbrev main_while0b_call13_v3 : Ref sig .tc := ⟨.hbm, 272, rfl⟩
abbrev main_while0b_call13_cst_0 : Ref sig .tc := ⟨.hbm, 273, rfl⟩
abbrev main_while0b_call13_v4 : Ref sig .tc := ⟨.hbm, 274, rfl⟩
abbrev main_while0b_call13_v5 : Ref sig .tc := ⟨.hbm, 275, rfl⟩
abbrev main_while0b_v158 : Ref sig .tc := ⟨.hbm, 276, rfl⟩
abbrev main_while0b_v159 : Ref sig .tc := ⟨.hbm, 277, rfl⟩
abbrev main_while0b_v160 : Ref sig .tc := ⟨.hbm, 278, rfl⟩
abbrev main_while0b_v161 : Ref sig .tc := ⟨.hbm, 279, rfl⟩
abbrev main_while0b_call14_v0 : Ref sig .tc := ⟨.hbm, 280, rfl⟩
abbrev main_while0b_call14_c : Ref sig .tc := ⟨.hbm, 281, rfl⟩
abbrev main_while0b_call14_c_0 : Ref sig .tc := ⟨.hbm, 282, rfl⟩
abbrev main_while0b_v162 : Ref sig .tc := ⟨.hbm, 283, rfl⟩
abbrev main_while0b_c_37 : Ref sig .tc := ⟨.hbm, 284, rfl⟩
abbrev main_while0b_v163 : Ref sig .tc := ⟨.hbm, 285, rfl⟩
abbrev main_v61 : Ref sig .tc := ⟨.hbm, 286, rfl⟩
abbrev main_v62 : Ref sig .tc := ⟨.hbm, 287, rfl⟩

abbrev nD : Nat := 1
abbrev τ : Topo := Topo.v7x

variable {F : FTy → Type} [FloatOps F]

abbrev main_while0_count : Scf.Loop 32 := ⟨0#32, 64#32, 1#32⟩
-- ==== Proof.BitRun.lean ====
/-
  The run of the kernel's body at its machine words: it ends, with every input block as it was.
-/
module

public import proofs.«01_k».proof.Proof.Gen.Kernel.Frame.Runs

@[expose] public section

-- the long axes of the rectangles are walked one coordinate at a time
set_option maxRecDepth 16384

noncomputable section

namespace Cert.Proof.BitLaunch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run is long
set_option maxHeartbeats 1000000 in
/-- The body's triple: on whole staging memrefs — the inputs' at their contents,
    the FORGOTTEN outputs' (8) at anything, handed back at some contents nothing names —
    the body runs to the continuation holding the inputs' as they were, the scratch at some contents: the printed functions are their skeletons (`Gen.*_eq_skeleton`),
    which `sl_exec` runs (Lib/Exec.lean). -/
theorem kernelRun (c : Dev nD) (i : grid0.Coords) (arg1 : Memref sig .tc .vmem S2x64x256 .f32) (harg1 : arg1.IsWhole) (arg2 : Memref sig .tc .vmem S256x896 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S2x64x1x256 .f32) (harg9 : arg9.IsWhole) (arg10 : Memref sig .tc .vmem S2x64x768 .f32) (harg10 : arg10.IsWhole) (arg11 : Memref sig .tc .vmem S2x64x128 .f32) (harg11 : arg11.IsWhole) (arg12 : Memref sig .tc .vmem S2x256x2048 .f32) (harg12 : arg12.IsWhole) (arg13 : Memref sig .tc .vmem S2x1024x512 .f32) (harg13 : arg13.IsWhole) (arg14 : Memref sig .tc .vmem S2x256x2048 .f32) (harg14 : arg14.IsWhole)
    (x0 : Vec F S2x64x256 .f32) (x1 : Vec F S256x896 .f32) (x2 : Vec F S256x1024 .f32) (x3 : Vec F S256x1024 .f32) (x4 : Vec F S256x1024 .f32) (x5 : Vec F S256x1024 .f32) (x6 : Vec F S1024x256 .f32) (x7 : Vec F S1024x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0__nm_kernel i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0__nm_kernel_eq_skeleton]; unfold cc0__nm_kernel_skel
    simp only [k0_part130_eq_skeleton, k0_part131_eq_skeleton, k0_part132_eq_skeleton, k0_part133_eq_skeleton, k0_part134_eq_skeleton, k0_part135_eq_skeleton, k0_part136_eq_skeleton, k0_part137_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Proof.BitLaunch

end
-- ==== Proof.BitLaunch.lean ====
/-
  The launch of the kernel at its machine words: every execution ends, the arguments as they were and every semaphore at
  zero. Nothing of what the output holds is named.
-/
module

public import proofs.«01_k».proof.Proof.BitRun
public import Idealize.ShloMosaic.Lib.Claim

@[expose] public section

-- the long axes of the rectangles are walked one coordinate at a time
set_option maxRecDepth 16384

noncomputable section

namespace Cert.Proof.BitLaunch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (8): nothing reads what the kernel leaves in them, so nothing
    of it is named (Lib/Pipeline/Dat.lean `Dat.toRForget`). -/
def forgets0 : Fin 9 → Bool := fun w => w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_unnamed (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 6 rfl).trans ((hA c 6).trans (V_main_arg3 m c)),
      (Pipeline.RDat.FramePost.arr_in h c 3 rfl).trans ((hA c 3).trans (V_main_arg4 m c)),
      (Pipeline.RDat.FramePost.arr_in h c 7 rfl).trans ((hA c 7).trans (V_main_arg5 m c))⟩) h

set_option backward.isDefEq.respectTransparency.types false in
/-- THE LAUNCH: `run_main`'s statement, and every semaphore counter at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_unnamed m ρ (fun c => (dats m 0 c).toRForget forgets0) (A_eq m) (run_main m ρ)

/-- THE FRAME: `Cert.quiescent_Kernel`'s statement (Defs.lean), for any numbers. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Proof.BitLaunch

end
-- ==== Proof.KernelTrip.lean ====
module

public import proofs.«01_k».proof.Proof.Gen.KernelIdeal.Loops

@[expose] public section

set_option maxRecDepth 16384
set_option maxHeartbeats 4000000
noncomputable section

namespace Cert.Proof.Launch

open Cert.KernelIdeal Cert.KernelIdeal.Gen Idealize.ShloMosaic Idealize.ShloMosaic.TcCoe

variable {F : FTy → Type} [FloatOps F] (𝒱 : Variants) (c : Dev nD) (bd : Option 𝒱.V) (i : grid0.Coords)
  (arg1 : Memref sig .tc .vmem S2x64x256 .f32) (harg1 : arg1.IsWhole) (arg2 : Memref sig .tc .vmem S256x896 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S2x64x1x256 .f32) (harg9 : arg9.IsWhole) (arg10 : Memref sig .tc .vmem S2x64x768 .f32) (harg10 : arg10.IsWhole) (arg11 : Memref sig .tc .vmem S2x64x128 .f32) (harg11 : arg11.IsWhole) (arg12 : Memref sig .tc .vmem S2x256x2048 .f32) (harg12 : arg12.IsWhole) (arg13 : Memref sig .tc .vmem S2x1024x512 .f32) (harg13 : arg13.IsWhole) (arg14 : Memref sig .tc .vmem S2x256x2048 .f32) (harg14 : arg14.IsWhole) (v160 : FVec F S1x1 .f32) (v161 : FVec F S1x1 .f32) (v162 : FVec F S1x16 .f32) (v163 : FVec F S16x1 .f32) (v168 : FVec F S1x16 .f32) (v173 : FVec F S1x16 .f32) (v178 : FVec F S1x16 .f32) (v183 : FVec F S1x16 .f32) (v188 : FVec F S1x16 .f32) (v193 : FVec F S1x16 .f32) (v198 : FVec F S1x16 .f32) (v203 : FVec F S1x16 .f32) (v208 : FVec F S1x16 .f32) (v213 : FVec F S1x16 .f32) (v218 : FVec F S1x16 .f32) (v223 : FVec F S1x16 .f32) (v228 : FVec F S1x16 .f32) (v233 : FVec F S1x16 .f32) (v238 : FVec F S1x16 .f32) (v243 : FVec F S1x16 .f32) (v248 : FVec F S16x1 .f32) (v253 : FVec F S16x1 .f32) (v258 : FVec F S16x1 .f32) (v263 : FVec F S16x1 .f32) (v268 : FVec F S16x1 .f32) (v273 : FVec F S16x1 .f32) (v278 : FVec F S16x1 .f32) (v283 : FVec F S16x1 .f32) (v288 : FVec F S16x1 .f32) (v293 : FVec F S16x1 .f32) (v298 : FVec F S16x1 .f32) (v303 : FVec F S16x1 .f32) (v308 : FVec F S16x1 .f32) (v313 : FVec F S16x1 .f32)
  (X_arg10 : BufTy.Contents (Elt F) arg10.view.ty) (X_arg11 : BufTy.Contents (Elt F) arg11.view.ty)
  (f g : BufTy.Contents (Elt F) arg9.view.ty) (f_arg12 : BufTy.Contents (Elt F) arg12.view.ty) (f_arg13 : BufTy.Contents (Elt F) arg13.view.ty) (f_arg14 : BufTy.Contents (Elt F) arg14.view.ty)

/-- What a trip stores does not depend on what it finds in the output block. -/
theorem trip_irrel (k : Fin k0_t1_loop.trips) :
    tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 v160 v161 v162 v163 v168 v173 v178 v183 v188 v193 v198 v203 v208 v213 v218 v223 v228 v233 v238 v243 v248 v253 v258 v263 v268 v273 v278 v283 v288 v293 v298 v303 v308 v313 X_arg10 X_arg11 k f f_arg12 f_arg13 f_arg14
      = tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 v160 v161 v162 v163 v168 v173 v178 v183 v188 v193 v198 v203 v208 v213 v218 v223 v228 v233 v238 v243 v248 v253 v258 v263 v268 v273 v278 v283 v288 v293 v298 v303 v308 v313 X_arg10 X_arg11 k g f_arg12 f_arg13 f_arg14 := by
  unfold tripL_k0_t1 trip_k0_t1
  rfl

/-- Nor does what the trips store. -/
theorem pb_irrel (k : ℕ) :
    pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 v160 v161 v162 v163 v168 v173 v178 v183 v188 v193 v198 v203 v208 v213 v218 v223 v228 v233 v238 v243 v248 v253 v258 v263 v268 v273 v278 v283 v288 v293 v298 v303 v308 v313 X_arg10 X_arg11 f f_arg12 f_arg13 f_arg14 k
      = pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 v160 v161 v162 v163 v168 v173 v178 v183 v188 v193 v198 v203 v208 v213 v218 v223 v228 v233 v238 v243 v248 v253 v258 v263 v268 v273 v278 v283 v288 v293 v298 v303 v308 v313 X_arg10 X_arg11 g f_arg12 f_arg13 f_arg14 k := by
  induction k with
  | zero => rfl
  | succ k ih =>
    rw [pb_k0_t1.eq_2, pb_k0_t1.eq_2, ih]
    unfold pb_k0_t1Step
    by_cases h : k < k0_t1_loop.trips
    · rw [dif_pos h, dif_pos h]
      rw [trip_irrel 𝒱 c bd i arg1 harg1 arg2 harg2 arg3 harg3 arg4 harg4 arg5 harg5 arg6 harg6 arg7 harg7 arg8 harg8 arg9 harg9 arg10 harg10 arg11 harg11 arg12 harg12 arg13 harg13 arg14 harg14 v160 v161 v162 v163 v168 v173 v178 v183 v188 v193 v198 v203 v208 v213 v218 v223 v228 v233 v238 v243 v248 v253 v258 v263 v268 v273 v278 v283 v288 v293 v298 v303 v308 v313 X_arg10 X_arg11 _ (arg9.view.writes (Elt F) g (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 v160 v161 v162 v163 v168 v173 v178 v183 v188 v193 v198 v203 v208 v213 v218 v223 v228 v233 v238 v243 v248 v253 v258 v263 v268 v273 v278 v283 v288 v293 v298 v303 v308 v313 X_arg10 X_arg11 g f_arg12 f_arg13 f_arg14 k).1)]
    · rw [dif_neg h, dif_neg h]

end Cert.Proof.Launch
-- ==== Proof.KernelRun.lean ====
/-
  The run of the kernel's body, with what it stores into its output block: the pieces of the loop's four trips. A trip
  reads the output block before it stores there and drops what it read, so the pieces are stated at an arbitrary
  content of the block (`pb_irrel`).
-/
module

public import proofs.«01_k».proof.Proof.Gen.KernelIdeal.Frame.Runs
public import proofs.«01_k».proof.Proof.KernelTrip

@[expose] public section

-- the long axes of the rectangles are walked one coordinate at a time
set_option maxRecDepth 16384

noncomputable section

namespace Cert.Proof.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run is long
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun (c : Dev nD) (i : grid0.Coords) (arg1 : Memref sig .tc .vmem S2x64x256 .f32) (harg1 : arg1.IsWhole) (arg2 : Memref sig .tc .vmem S256x896 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S2x64x1x256 .f32) (harg9 : arg9.IsWhole) (arg10 : Memref sig .tc .vmem S2x64x768 .f32) (harg10 : arg10.IsWhole) (arg11 : Memref sig .tc .vmem S2x64x128 .f32) (harg11 : arg11.IsWhole) (arg12 : Memref sig .tc .vmem S2x256x2048 .f32) (harg12 : arg12.IsWhole) (arg13 : Memref sig .tc .vmem S2x1024x512 .f32) (harg13 : arg13.IsWhole) (arg14 : Memref sig .tc .vmem S2x256x2048 .f32) (harg14 : arg14.IsWhole)
    (x0 : Vec F S2x64x256 .f32) (x1 : Vec F S256x896 .f32) (x2 : Vec F S256x1024 .f32) (x3 : Vec F S256x1024 .f32) (x4 : Vec F S256x1024 .f32) (x5 : Vec F S256x1024 .f32) (x6 : Vec F S1024x256 .f32) (x7 : Vec F S1024x256 .f32) :
    { L8 : List (View.Piece (Elt F) S2x64x1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0__nm_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__nm_kernel_eq_skeleton]; unfold cc0__nm_kernel_skel
    simp only [k0_part130_eq_skeleton, k0_part131_eq_skeleton, k0_part132_eq_skeleton, k0_part133_eq_skeleton, k0_part134_eq_skeleton, k0_part135_eq_skeleton, k0_part136_eq_skeleton, k0_part137_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    rw [pb_irrel (f := f8) (g := arg9.view.junk)]
    isplitl [H8]; · iexists _; iexact H8
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Proof.Launch

end
-- ==== Proof.KernelLaunch.lean ====
/-
  The launch of the kernel over the reals: every execution ends, the arguments as they were, every semaphore at zero, and
  the result array holding, block by block, what the body leaves in its output block at that grid point.
-/
module

public import proofs.«01_k».proof.Proof.KernelRun
public import Idealize.ShloMosaic.Lib.Claim
public import Idealize.ShloMosaic.Lib.Pipeline.Value

@[expose] public section

-- the long axes of the rectangles are walked one coordinate at a time
set_option maxRecDepth 16384

noncomputable section

namespace Cert.Proof.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 8 tile its block (8 stores of `S1x16x1x256`, checked by the kernel's evaluation: Lib/Ring.lean `Piece.tiledL`, linear in the pieces, through a loop's `@[irreducible]` trip theorem too), so they cover it. -/
theorem cover0_A_8 (c : Dev nD) (i : grid0.Coords) (arg1 : Memref sig .tc .vmem S2x64x256 .f32) (harg1 : arg1.IsWhole) (arg2 : Memref sig .tc .vmem S256x896 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S2x64x1x256 .f32) (harg9 : arg9.IsWhole) (arg10 : Memref sig .tc .vmem S2x64x768 .f32) (harg10 : arg10.IsWhole) (arg11 : Memref sig .tc .vmem S2x64x128 .f32) (harg11 : arg11.IsWhole) (arg12 : Memref sig .tc .vmem S2x256x2048 .f32) (harg12 : arg12.IsWhole) (arg13 : Memref sig .tc .vmem S2x1024x512 .f32) (harg13 : arg13.IsWhole) (arg14 : Memref sig .tc .vmem S2x256x2048 .f32) (harg14 : arg14.IsWhole)
    (x0 : Vec F S2x64x256 .f32) (x1 : Vec F S256x896 .f32) (x2 : Vec F S256x1024 .f32) (x3 : Vec F S256x1024 .f32) (x4 : Vec F S256x1024 .f32) (x5 : Vec F S256x1024 .f32) (x6 : Vec F S1024x256 .f32) (x7 : Vec F S1024x256 .f32) (y : S2x64x1x256.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1 S1x16x1x256.size (by sl_kernel_rfl) y

/-- What the run leaves in output 8's staging buffer: its pieces read back over junk. -/
def out0_A_8 (c : Dev nD) (i : grid0.Coords) (arg1 : Memref sig .tc .vmem S2x64x256 .f32) (harg1 : arg1.IsWhole) (arg2 : Memref sig .tc .vmem S256x896 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S2x64x1x256 .f32) (harg9 : arg9.IsWhole) (arg10 : Memref sig .tc .vmem S2x64x768 .f32) (harg10 : arg10.IsWhole) (arg11 : Memref sig .tc .vmem S2x64x128 .f32) (harg11 : arg11.IsWhole) (arg12 : Memref sig .tc .vmem S2x256x2048 .f32) (harg12 : arg12.IsWhole) (arg13 : Memref sig .tc .vmem S2x1024x512 .f32) (harg13 : arg13.IsWhole) (arg14 : Memref sig .tc .vmem S2x256x2048 .f32) (harg14 : arg14.IsWhole)
    (x0 : Vec F S2x64x256 .f32) (x1 : Vec F S256x896 .f32) (x2 : Vec F S256x1024 .f32) (x3 : Vec F S256x1024 .f32) (x4 : Vec F S256x1024 .f32) (x5 : Vec F S256x1024 .f32) (x6 : Vec F S1024x256 .f32) (x7 : Vec F S1024x256 .f32) : Vec F S2x64x1x256 .f32 :=
  VO0_8.read (Elt F) (VO0_8.writes (Elt F) VO0_8.junk (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1)

/-! ## What the outputs hold after each point -/

/-- What the outputs' staging buffers hold after the body at point `t`: the run's contents at
    the point's memrefs and input blocks. -/
def outsAt0 (c : Dev nD) (t : Fin cfg0.N) : Vec F S2x64x1x256 .f32 :=
  out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  unfold out0_A_8
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, ⟨%e8, H8⟩, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover0_A_8 c _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean), for any numbers. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

/-! ## Blockwise: what each point writes back, and the final array block by block -/

/-- WHAT POINT `t` WRITES BACK to output window 8's array: the run's contents for that window after the body (`Gen.outsAt0`), read through the window's block. -/
theorem flushed8 (c : Dev nD) (t : Fin cfg0.N) :
    (dats m 0 c).flushed 8 t = (cfg0.win 8).cut (grid0.coords t) (outsAt0 m c t) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — the kernel's one case, `Gen.outsAt0` by definition. -/
theorem flushed8_A (c : Dev nD) (t : Fin cfg0.N) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t)) := by
  simp only [flushed8, outsAt0]

/-- The index map sends distinct grid points to distinct block indices (decided over the 2 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S4x64x1x256.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 6 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 6).trans (((dats m 0 c).arrAt_in 6 rfl _).trans ((A_eq m c 6).trans (V_main_arg3 m c)))

/-- After the frame run, argument `main_arg4` is as launched: input window 3 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 3).trans (((dats m 0 c).arrAt_in 3 rfl _).trans ((A_eq m c 3).trans (V_main_arg4 m c)))

/-- After the frame run, argument `main_arg5` is as launched: input window 7 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 7).trans (((dats m 0 c).arrAt_in 7 rfl _).trans ((A_eq m c 7).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post8 m r h c,
      kept_main_arg0 m r h c,
      kept_main_arg1 m r h c,
      kept_main_arg2 m r h c,
      kept_main_arg3 m r h c,
      kept_main_arg4 m r h c,
      kept_main_arg5 m r h c⟩)
    (run_main m ρ)

end Cert.Proof.Launch

end
-- ==== Proof.RefRun.lean ====
/-
  The run of the reference: what its loop leaves is the step of the generated module Step, iterated from the initial state.
-/
module

public import proofs.«01_k».proof.Proof.Gen.ReferenceIdeal.Run
public import proofs.«01_k».proof.Proof.Gen.ReferenceIdeal.Step

@[expose] public section

set_option maxRecDepth 8192

noncomputable section

namespace Cert.Proof.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v60_7) = s.main_v60_7
  f_8 : V0 (Proc.devRef .tc main_v60_8) = s.main_v60_8
  f_9 : V0 (Proc.devRef .tc main_v60_9) = s.main_v60_9
  f_10 : V0 (Proc.devRef .tc main_v60_10) = s.main_v60_10
  f_11 : V0 (Proc.devRef .tc main_v60_11) = s.main_v60_11
  f_12 : V0 (Proc.devRef .tc main_v60_12) = s.main_v60_12
  f_13 : V0 (Proc.devRef .tc main_v60_13) = s.main_v60_13
  f_14 : V0 (Proc.devRef .tc main_v60_14) = s.main_v60_14
  f_15 : V0 (Proc.devRef .tc main_v60_15) = s.main_v60_15
  f_0 : V0 (Proc.devRef .tc main_v60_0) = s.main_v60_0
  f_1 : V0 (Proc.devRef .tc main_v60_1) = s.main_v60_1
  f_2 : V0 (Proc.devRef .tc main_v60_2) = s.main_v60_2
  f_3 : V0 (Proc.devRef .tc main_v60_3) = s.main_v60_3
  f_4 : V0 (Proc.devRef .tc main_v60_4) = s.main_v60_4
  f_5 : V0 (Proc.devRef .tc main_v60_5) = s.main_v60_5
  n_6 : V0 (Proc.devRef .tc main_v60_6) = constantI S_ 32 (BitVec.ofNat 32 j)

variable {V0 s j}

/-! What a trip computes from a valuation that holds a state is what `step` computes from the state. -/

/-- The query of the trip's step. -/
theorem at_v65 (h : Holds V0 s j) : res_main_while0b_v65 V0 = Step.b11 j s := by
  unfold res_main_while0b_v65
  rw [h.f_2, h.n_6]
  rfl

/-- The decay's gate. -/
theorem at_v66 (h : Holds V0 s j) : res_main_while0b_v66 V0 = Step.b15 j s := by
  unfold res_main_while0b_v66
  rw [h.f_3, h.n_6]
  rfl

/-- The step size's gate. -/
theorem at_v67 (h : Holds V0 s j) : res_main_while0b_v67 V0 = Step.b19 j s := by
  unfold res_main_while0b_v67
  rw [h.f_4, h.n_6]
  rfl

/-- The momentum's gate. -/
theorem at_v68 (h : Holds V0 s j) : res_main_while0b_v68 V0 = Step.b23 j s := by
  unfold res_main_while0b_v68
  rw [h.f_5, h.n_6]
  rfl

/-- The key of the trip's step. -/
theorem at_v69 (h : Holds V0 s j) : res_main_while0b_v69 V0 = Step.b24 j s := by
  unfold res_main_while0b_v69
  rw [h.f_0, h.n_6]
  rfl

/-- The key through the first layer. -/
theorem at_v72 (h : Holds V0 s j) : res_main_while0b_v72 V0 = Step.b27 j s := by
  unfold res_main_while0b_v72
  rw [h.f_7, h.f_9, at_v69 h]
  rfl

/-- Its logistic. -/
theorem at_v73_2 (h : Holds V0 s j) : res_main_while0b_v73_2 V0 = Step.b35 j s := by
  unfold res_main_while0b_v73_2
  rw [at_v72 h]
  rfl

/-- Its activation. -/
theorem at_v73_0 (h : Holds V0 s j) : res_main_while0b_v73_0 V0 = Step.b40 j s := by
  unfold res_main_while0b_v73_0
  rw [at_v72 h, at_v73_2 h]
  rfl

/-- The prediction less the value. -/
theorem at_v78 (h : Holds V0 s j) : res_main_while0b_v78 V0 = Step.b45 j s := by
  unfold res_main_while0b_v78
  rw [h.f_1, h.f_10, h.f_8, h.n_6, at_v73_0 h]
  rfl

/-- The gradient at the prediction. -/
theorem at_v90 (h : Holds V0 s j) : res_main_while0b_v90 V0 = Step.b62 j s := by
  unfold res_main_while0b_v90
  rw [at_v78 h]
  rfl

/-- The gradient at the hidden row. -/
theorem at_v97 (h : Holds V0 s j) : res_main_while0b_v97 V0 = Step.b69 j s := by
  unfold res_main_while0b_v97
  rw [h.f_10, h.f_8, at_v90 h]
  rfl

/-- The gradient before the activation. -/
theorem at_v98 (h : Holds V0 s j) : res_main_while0b_v98 V0 = Step.b73 j s := by
  unfold res_main_while0b_v98
  rw [at_v72 h, at_v73_2 h, at_v97 h]
  rfl

/-- The momentum of the first weights. -/
theorem at_v109 (h : Holds V0 s j) : res_main_while0b_v109 V0 = Step.b84 j s := by
  unfold res_main_while0b_v109
  rw [h.f_11, at_v67 h, at_v68 h, at_v69 h, at_v98 h]
  rfl

/-- The momentum of the second weights. -/
theorem at_v116 (h : Holds V0 s j) : res_main_while0b_v116 V0 = Step.b91 j s := by
  unfold res_main_while0b_v116
  rw [h.f_12, at_v67 h, at_v68 h, at_v73_0 h, at_v90 h]
  rfl

/-- The momentum of the first projections. -/
theorem at_v123 (h : Holds V0 s j) : res_main_while0b_v123 V0 = Step.b98 j s := by
  unfold res_main_while0b_v123
  rw [h.f_13, at_v67 h, at_v68 h, at_v69 h, at_v98 h]
  rfl

/-- The momentum of the second projections. -/
theorem at_v130 (h : Holds V0 s j) : res_main_while0b_v130 V0 = Step.b105 j s := by
  unfold res_main_while0b_v130
  rw [h.f_14, at_v67 h, at_v68 h, at_v73_0 h, at_v90 h]
  rfl

/-- The first weights. -/
theorem at_v136 (h : Holds V0 s j) : res_main_while0b_v136 V0 = Step.b112 j s := by
  unfold res_main_while0b_v136
  rw [h.f_7, at_v66 h, at_v109 h]
  rfl

/-- The second weights. -/
theorem at_v142 (h : Holds V0 s j) : res_main_while0b_v142 V0 = Step.b119 j s := by
  unfold res_main_while0b_v142
  rw [h.f_8, at_v66 h, at_v116 h]
  rfl

/-- The first projections. -/
theorem at_v148 (h : Holds V0 s j) : res_main_while0b_v148 V0 = Step.b126 j s := by
  unfold res_main_while0b_v148
  rw [h.f_9, at_v66 h, at_v123 h]
  rfl

/-- The second projections. -/
theorem at_v154 (h : Holds V0 s j) : res_main_while0b_v154 V0 = Step.b133 j s := by
  unfold res_main_while0b_v154
  rw [h.f_10, at_v66 h, at_v130 h]
  rfl

/-- The query through the first layer. -/
theorem at_v157 (h : Holds V0 s j) : res_main_while0b_v157 V0 = Step.b136 j s := by
  unfold res_main_while0b_v157
  rw [at_v65 h, at_v136 h, at_v148 h]
  rfl

/-- Its activation. -/
theorem at_v158 (h : Holds V0 s j) : res_main_while0b_v158 V0 = Step.b145 j s := by
  unfold res_main_while0b_v158
  rw [at_v157 h]
  rfl

/-- The answers so far. -/
theorem step_15 (h : Holds V0 s j) : step_main_v60_15 V0 = (step j s).main_v60_15 := by
  unfold step_main_v60_15
  rw [h.f_15, h.n_6, at_v142 h, at_v154 h, at_v158 h]
  rfl

/-- The trip's number. -/
theorem step_6 (h : Holds V0 s j) : step_main_v60_6 V0 = constantI S_ 32 (BitVec.ofNat 32 (j + 1)) := by
  unfold step_main_v60_6
  rw [h.n_6]
  funext i
  show BitVec.ofNat 32 j + 1#32 = BitVec.ofNat 32 (j + 1)
  simp only [BitVec.ofNat_add]

/-- The result, of the last state. -/
theorem out_main_v62_holds (h : Holds V0 s j) : out_main_v62 V0 = Cert.ReferenceIdeal.Step.R_main_v62 s := by
  unfold out_main_v62 Cert.ReferenceIdeal.Step.R_main_v62
  rw [h.f_15]
  try rfl

/-- One trip keeps the valuation holding: `step` of the state, the same set-up values, the next number. -/
theorem holds_step (h : Holds V0 s j) : Holds (STEP V0) (step j s) (j + 1) where
  f_7 := (STEP_main_v60_7 V0).trans (at_v136 h)
  f_8 := (STEP_main_v60_8 V0).trans (at_v142 h)
  f_9 := (STEP_main_v60_9 V0).trans (at_v148 h)
  f_10 := (STEP_main_v60_10 V0).trans (at_v154 h)
  f_11 := (STEP_main_v60_11 V0).trans (at_v109 h)
  f_12 := (STEP_main_v60_12 V0).trans (at_v116 h)
  f_13 := (STEP_main_v60_13 V0).trans (at_v123 h)
  f_14 := (STEP_main_v60_14 V0).trans (at_v130 h)
  f_15 := (STEP_main_v60_15 V0).trans (step_15 h)
  n_6 := (STEP_main_v60_6 V0).trans (step_6 h)
  f_0 := (STEP_main_v60_0 V0).trans h.f_0
  f_1 := (STEP_main_v60_1 V0).trans h.f_1
  f_2 := (STEP_main_v60_2 V0).trans h.f_2
  f_3 := (STEP_main_v60_3 V0).trans h.f_3
  f_4 := (STEP_main_v60_4 V0).trans h.f_4
  f_5 := (STEP_main_v60_5 V0).trans h.f_5

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 900000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v62) = Cert.ReferenceIdeal.Step.R_main_v62 (it c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 64
    ⟨(h c).1.trans (out_main_v62_holds hk), (h c).2.1, (h c).2.2.1, (h c).2.2.2.1, (h c).2.2.2.2.1, (h c).2.2.2.2.2.1, (h c).2.2.2.2.2.2⟩) (Value.run m ρ)

end Cert.Proof.RefRun

end
-- ==== Proof.Chunk.lean ====
/-
  One chunk of sixteen steps, as the kernel computes it, written once for any step: every step before it enters as a
  weighted sum of rows. The memory's matrices are read at the chunk's start (`Ctx`); a step's rows and weights are `Out`;
  `hist` runs the steps one after the other.
-/
module

public import Idealize.ShloMosaic.PureOps
public import Mathlib.Data.List.OfFn

@[expose] public section

noncomputable section

namespace Cert.Proof.Chunk

open Idealize.ShloMosaic

variable {F : FTy → Type} [FloatOps F]

/-- The shape of an `m × n` array. -/
abbrev M (m n : ℕ) : Shape := ⟨2, ![m, n]⟩

/-- An `m × n` array of floats. -/
abbrev Mat (F : FTy → Type) (m n : ℕ) := FVec F (M m n) .f32

/-- A part that fits may be cut out. -/
theorem slices {a b m n o p : ℕ} (h : o + m ≤ a ∧ p + n ≤ b) : Shape.Slices (M a b) ![o, p] (M m n) :=
  ⟨rfl, fun i => by match i with | 0 => exact h.1 | 1 => exact h.2⟩

/-- The `m × n` part of an array from row `o` and column `p` on. -/
def sl (m n : ℕ) {a b : ℕ} (x : Mat F a b) (o p : ℕ) (h : o + m ≤ a ∧ p + n ≤ b) : Mat F m n :=
  extractStridedSlice (M m n) ![o, p] x (slices h)

/-- One entry spreads over any matrix. -/
theorem bcasts (m n : ℕ) : Shape.Broadcasts (M 1 1) (M m n) :=
  ⟨le_rfl, fun i => Or.inl (by match i with | 0 => rfl | 1 => rfl)⟩

/-- One number as an `m × n` array. -/
def bc (m n : ℕ) (x : Mat F 1 1) : Mat F m n := broadcastTo (M m n) x (bcasts m n)

/-- A column spreads over any number of columns. -/
theorem bcasts_col (m n : ℕ) : Shape.Broadcasts (M m 1) (M m n) :=
  ⟨le_rfl, fun i => by match i with | 0 => exact Or.inr fun _ => rfl | 1 => exact Or.inl rfl⟩

/-- A column repeated along the rows. -/
def bcol {m : ℕ} (n : ℕ) (x : Mat F m 1) : Mat F m n := broadcastTo (M m n) x (bcasts_col m n)

/-- The product of two matrices. -/
def mul {m k n : ℕ} (x : Mat F m k) (y : Mat F k n) : Mat F m n :=
  matmul (DotDims.plain m k n) none x y (constant (M m n) .f32 0x00000000#32)

/-- The product with the second matrix transposed. -/
def mulT {m k n : ℕ} (x : Mat F m k) (y : Mat F n k) : Mat F m n :=
  matmul (DotDims.transposedRhs m k n) none x y (constant (M m n) .f32 0x00000000#32)

/-- Contraction of both first axes. -/
def tdot (k m n : ℕ) : DotDims (M k m) (M k n) (M m n) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The product with the first matrix transposed. -/
def Tmul {m k n : ℕ} (x : Mat F k m) (y : Mat F k n) : Mat F m n :=
  matmul (tdot k m n) none x y (constant (M m n) .f32 0x00000000#32)

omit [FloatOps F] in
/-- Rows stack to a matrix. -/
theorem concats (b n : ℕ) (x : Fin n → Mat F 1 b) (h : 2 ≤ n) : Shape.Concatenates
    ((List.ofFn fun j : Fin n => (⟨M 1 b, x j⟩ : (s : Shape) × (s.Idx → F .f32))).map (·.1)) (M n b) 0 := by
  have e : (List.ofFn fun j : Fin n => (⟨M 1 b, x j⟩ : (s : Shape) × (s.Idx → F .f32))).map (·.1)
      = List.replicate n (M 1 b) := by
    rw [List.map_ofFn]; exact List.ofFn_const n (M 1 b)
  rw [e]
  refine ⟨by simpa using h, fun s hs => ?_, ?_⟩
  · obtain rfl := List.eq_of_mem_replicate hs
    exact ⟨rfl, fun i hi => by match i with | 0 => exact absurd rfl hi | 1 => rfl⟩
  · simp

/-- Rows stacked into a matrix. -/
def stack (n b : ℕ) (h : 2 ≤ n) (x : Fin n → Mat F 1 b) : Mat F n b :=
  concatenate (M n b) 0 (List.ofFn fun j : Fin n => ⟨M 1 b, x j⟩) (concats b n x h)

/-- Two equal matrices stand side by side. -/
theorem concats_side (m n p : ℕ) (hp : p = n + n) : Shape.Concatenates [M m n, M m n] (M m p) 1 := by
  subst hp
  refine ⟨le_rfl, fun s hs => ?_, by simp⟩
  obtain rfl : s = M m n := by simpa using hs
  exact ⟨rfl, fun i hi => by match i with | 0 => rfl | 1 => exact absurd rfl hi⟩

/-- Two matrices side by side. -/
def side {m n : ℕ} (p : ℕ) (hp : p = n + n) (x y : Mat F m n) : Mat F m p :=
  concatenate (M m p) 1 [⟨M m n, x⟩, ⟨M m n, y⟩] (concats_side m n p hp)

/-- Two equal matrices stand one atop the other. -/
theorem concats_atop (m n p : ℕ) (hp : p = m + m) : Shape.Concatenates [M m n, M m n] (M p n) 0 := by
  subst hp
  refine ⟨le_rfl, fun s hs => ?_, by simp⟩
  obtain rfl : s = M m n := by simpa using hs
  exact ⟨rfl, fun i hi => by match i with | 0 => exact absurd rfl hi | 1 => rfl⟩

/-- Two matrices one above the other. -/
def atop {m n : ℕ} (p : ℕ) (hp : p = m + m) (x y : Mat F m n) : Mat F p n :=
  concatenate (M p n) 0 [⟨M m n, x⟩, ⟨M m n, y⟩] (concats_atop m n p hp)

/-- The number one, everywhere. -/
def ones (m n : ℕ) : Mat F m n := broadcast (M m n) (Scalar.ofBits .f32 0x3F800000#32)

/-- `l · x + r · y`. -/
def two {m n : ℕ} (l r : Mat F 1 1) (x y : Mat F m n) : Mat F m n := addf (mulf (bc m n l) x) (mulf (bc m n r) y)

/-- The sum of the first `m + 1` rows, each with its weight. -/
def wsum {n b : ℕ} (w : Mat F 1 n) (rows : ℕ → Mat F 1 b) : (m : ℕ) → m < n → Mat F 1 b
  | 0, h => mulf (bc 1 b (sl 1 1 w 0 0 ⟨le_rfl, h⟩)) (rows 0)
  | m + 1, h => addf (wsum w rows m (Nat.lt_of_succ_lt h)) (mulf (bc 1 b (sl 1 1 w 0 (m + 1) ⟨le_rfl, h⟩)) (rows (m + 1)))

/-- `x` plus the rows `r`, each weighted by its coefficient and by the product of `z` with its row `y`. -/
def mix {k n : ℕ} (beta : Mat F 1 16) (z : Mat F 1 k) (y : ℕ → Mat F 1 k) (r : ℕ → Mat F 1 n) (x : Mat F 1 n) :
    (s : ℕ) → s < 16 → Mat F 1 n
  | 0, _ => x
  | 1, _ => addf x (mulf (bc 1 n (mulf (mulT z (y 0)) (sl 1 1 beta 0 0 (by omega)))) (r 0))
  | s + 2, h => addf x (wsum (mulf (mulT z (stack (s + 2) k (by omega) fun j => y j)) (sl 1 (s + 2) beta 0 0 (by omega))) r
      (s + 1) (by omega))

/-- `x` plus the rows `r`, each weighted by its coefficient and by its entry of `g`. -/
def mixg {n : ℕ} (beta g : Mat F 1 16) (r : ℕ → Mat F 1 n) (x : Mat F 1 n) : (s : ℕ) → s ≤ 16 → Mat F 1 n
  | 0, _ => x
  | s + 1, h => addf x (wsum (mulf beta g) r s h)

/-- What a chunk reads: keys, queries, values and gates of its steps, and the three matrices with their momenta. -/
structure Ctx (F : FTy → Type) where
  kc : Mat F 16 256
  qc : Mat F 16 256
  vc : Mat F 16 256
  sc : Mat F 16 128
  am : Mat F 256 2048
  bt : Mat F 1024 512
  bm : Mat F 256 2048

/-- What a step leaves: its four rows, and the weights after it. -/
structure Out (F : FTy → Type) where
  h : Mat F 1 1024
  dp : Mat F 1 256
  dpre : Mat F 1 1024
  h2 : Mat F 1 1024
  lam : Mat F 1 1
  sg : Mat F 1 1
  en : Mat F 1 1
  br : Mat F 1 16
  mr : Mat F 1 16
  bcl : Mat F 16 1
  mcl : Mat F 16 1

/-- The row with a one at place `s`. -/
def eyeR (s : ℕ) : Mat F 1 16 :=
  sitofp .f32 (extui 32 (cmpi .eq (iota .tc (M 1 16) 32 [1] (by decide)) (broadcast (M 1 16) (BitVec.ofNat 32 s))) (by decide))

/-- The column with a one at place `s`. -/
def eyeC (s : ℕ) : Mat F 16 1 :=
  sitofp .f32 (extui 32 (cmpi .eq (iota .tc (M 16 1) 32 [0] (by decide)) (broadcast (M 16 1) (BitVec.ofNat 32 s))) (by decide))

/-- Before the first step. -/
def init : Out F where
  h := constant (M 1 1024) .f32 0x00000000#32
  dp := constant (M 1 256) .f32 0x00000000#32
  dpre := constant (M 1 1024) .f32 0x00000000#32
  h2 := constant (M 1 1024) .f32 0x00000000#32
  lam := broadcast (M 1 1) (Scalar.ofBits .f32 0x3F800000#32)
  sg := broadcast (M 1 1) (Scalar.ofBits .f32 0x00000000#32)
  en := broadcast (M 1 1) (Scalar.ofBits .f32 0x3F800000#32)
  br := broadcast (M 1 16) (Scalar.ofBits .f32 0x00000000#32)
  mr := broadcast (M 1 16) (Scalar.ofBits .f32 0x00000000#32)
  bcl := broadcast (M 16 1) (Scalar.ofBits .f32 0x00000000#32)
  mcl := broadcast (M 16 1) (Scalar.ofBits .f32 0x00000000#32)

section Step

variable (C : Ctx F)

/-- Keys and queries times the first matrix and its momentum. -/
def uu : Mat F 32 2048 := mul (atop 32 rfl C.kc C.qc) C.am

/-- Keys and queries times the keys. -/
def gg : Mat F 32 16 := mulT (atop 32 rfl C.kc C.qc) C.kc

/-- The keys through the chunk's first matrix. -/
def u0 : Mat F 16 1024 := sl 16 1024 (uu C) 0 0 (by decide)
/-- The keys through its momentum. -/
def um : Mat F 16 1024 := sl 16 1024 (uu C) 0 1024 (by decide)
/-- The queries through the chunk's first matrix. -/
def q0 : Mat F 16 1024 := sl 16 1024 (uu C) 16 0 (by decide)
/-- The queries through its momentum. -/
def qm : Mat F 16 1024 := sl 16 1024 (uu C) 16 1024 (by decide)
/-- The products of the keys. -/
def kk : Mat F 16 16 := sl 16 16 (gg C) 0 0 (by decide)
/-- The products of queries and keys. -/
def qk : Mat F 16 16 := sl 16 16 (gg C) 16 0 (by decide)

variable (s : ℕ) (hs : s < 16)

/-- The step's value row. -/
def v_ : Mat F 1 256 := sl 1 256 C.vc s 0 (by omega)
/-- The step's momentum gate. -/
def e_ : Mat F 1 1 := sl 1 1 C.sc s 2 (by omega)
/-- What the decay leaves. -/
def keep : Mat F 1 1 := subf (ones 1 1) (sl 1 1 C.sc s 0 (by omega))
/-- Twice the step size. -/
def cth : Mat F 1 1 := mulf (broadcast (M 1 1) (Scalar.ofBits .f32 0x40000000#32)) (sl 1 1 C.sc s 1 (by omega))

variable (p : Out F) (P : ℕ → Out F)

/-- The hidden row before the activation. -/
def u_ : Mat F 1 1024 :=
  mixg p.br (sl 1 16 (kk C) s 0 (by omega)) (fun j => (P j).dpre)
    (two p.lam p.sg (sl 1 1024 (u0 C) s 0 (by omega)) (sl 1 1024 (um C) s 0 (by omega))) s hs.le

/-- The hidden row. -/
def h_ : Mat F 1 1024 := mulf (u_ C s hs p P) (logistic (u_ C s hs p P))

/-- The prediction. -/
def pred : Mat F 1 256 :=
  mix p.br (h_ C s hs p P) (fun j => (P j).h) (fun j => (P j).dp)
    (two p.lam p.sg (sl 1 256 (mul (h_ C s hs p P) C.bt) 0 0 (by decide)) (sl 1 256 (mul (h_ C s hs p P) C.bt) 0 256 (by decide)))
    s hs

/-- The gradient at the prediction. -/
def dp_ : Mat F 1 256 :=
  mulf (broadcast (M 1 256) (Scalar.ofBits .f32 0x3C000000#32)) (subf (pred C s hs p P) (v_ C s hs))

/-- The gradient at the hidden row. -/
def dh : Mat F 1 1024 :=
  mix p.br (dp_ C s hs p P) (fun j => (P j).dp) (fun j => (P j).h)
    (two p.lam p.sg (sl 1 1024 (mul (dp_ C s hs p P) C.bm) 0 0 (by decide))
      (sl 1 1024 (mul (dp_ C s hs p P) C.bm) 0 1024 (by decide))) s hs

/-- The gradient before the activation. -/
def dpre_ : Mat F 1 1024 :=
  mulf (dh C s hs p P) (mulf (logistic (u_ C s hs p P))
    (addf (ones 1 1024) (mulf (u_ C s hs p P) (subf (ones 1 1024) (logistic (u_ C s hs p P))))))

/-- The momentum's coefficients after the step, as a row. -/
def mr_ : Mat F 1 16 := subf (mulf (bc 1 16 (e_ C s hs)) p.mr) (mulf (bc 1 16 (cth C s hs)) (eyeR s))
/-- The momentum's coefficients after the step, as a column. -/
def mc_ : Mat F 16 1 := subf (mulf (bc 16 1 (e_ C s hs)) p.mcl) (mulf (bc 16 1 (cth C s hs)) (eyeC s))
/-- The matrix's coefficients after the step, as a row. -/
def br_ : Mat F 1 16 := addf (mulf (bc 1 16 (keep C s hs)) p.br) (mr_ C s hs p)
/-- The matrix's coefficients after the step, as a column. -/
def bc_ : Mat F 16 1 := addf (mulf (bc 16 1 (keep C s hs)) p.bcl) (mc_ C s hs p)
/-- The momentum's own scale after the step. -/
def en_ : Mat F 1 1 := mulf (e_ C s hs) p.en
/-- The first momentum's weight after the step. -/
def sg_ : Mat F 1 1 := addf (mulf (keep C s hs) p.sg) (en_ C s hs p)
/-- The first matrix's weight after the step. -/
def lam_ : Mat F 1 1 := mulf (keep C s hs) p.lam

/-- The hidden row of the query, before the activation. -/
def u2 : Mat F 1 1024 :=
  mixg (br_ C s hs p) (sl 1 16 (qk C) s 0 (by omega)) (fun j => if j = s then dpre_ C s hs p P else (P j).dpre)
    (two (lam_ C s hs p) (sg_ C s hs p) (sl 1 1024 (q0 C) s 0 (by omega)) (sl 1 1024 (qm C) s 0 (by omega)))
    (s + 1) (by omega)

/-- One step, from the weights `p` before it and the earlier steps `P`. -/
def step : Out F where
  h := h_ C s hs p P
  dp := dp_ C s hs p P
  dpre := dpre_ C s hs p P
  h2 := mulf (u2 C s hs p P) (logistic (u2 C s hs p P))
  lam := lam_ C s hs p
  sg := sg_ C s hs p
  en := en_ C s hs p
  br := br_ C s hs p
  mr := mr_ C s hs p
  bcl := bc_ C s hs p
  mcl := mc_ C s hs p

end Step

/-- The step before `n`, or the start. -/
def last (P : ℕ → Out F) : ℕ → Out F
  | 0 => init
  | n + 1 => P n

/-- The first `n` steps. -/
def hist (C : Ctx F) : (n : ℕ) → n ≤ 16 → ℕ → Out F
  | 0, _ => fun _ => init
  | n + 1, h => fun j =>
    if j = n then step C n h (last (hist C n (Nat.le_of_succ_le h)) n) (hist C n (Nat.le_of_succ_le h))
    else hist C n (Nat.le_of_succ_le h) j

section End

variable (C : Ctx F)

/-- The sixteen steps. -/
def P (j : ℕ) : Out F := hist C 16 le_rfl j

/-- The answers to the chunk's queries. -/
def ansRows : Mat F 16 256 :=
  addf
    (addf (mulf (bcol 256 (stack 16 1 (by decide) fun j => (P C j).lam))
        (sl 16 256 (mul (stack 16 1024 (by decide) fun j => (P C j).h2) C.bt) 0 0 (by decide)))
      (mulf (bcol 256 (stack 16 1 (by decide) fun j => (P C j).sg))
        (sl 16 256 (mul (stack 16 1024 (by decide) fun j => (P C j).h2) C.bt) 0 256 (by decide))))
    (mul (mulf (mulT (stack 16 1024 (by decide) fun j => (P C j).h2) (stack 16 1024 (by decide) fun j => (P C j).h))
      (stack 16 16 (by decide) fun j => (P C j).br)) (stack 16 256 (by decide) fun j => (P C j).dp))

/-- The matrix and the momentum after the chunk, of the rows `x` and `y` whose products the steps added. -/
def grads {a b : ℕ} (p : ℕ) (hp : p = a + a) (x : Mat F 16 a) (y : Mat F 16 b) : Mat F p b :=
  Tmul (side p hp (mulf x (bcol a (P C 15).bcl)) (mulf x (bcol a (P C 15).mcl))) y

/-- The matrix that the chunk leaves. -/
def newM {a b : ℕ} (p : ℕ) (hp : p = a + a) (x : Mat F 16 a) (y : Mat F 16 b) (W0 W1 : Mat F a b) : Mat F a b :=
  addf (two (P C 15).lam (P C 15).sg W0 W1) (sl a b (grads C p hp x y) 0 0 (by omega))

/-- The momentum that the chunk leaves. -/
def newMom {a b : ℕ} (p : ℕ) (hp : p = a + a) (x : Mat F 16 a) (y : Mat F 16 b) (W1 : Mat F a b) : Mat F a b :=
  addf (mulf (bc a b (P C 15).en) W1) (sl a b (grads C p hp x y) a 0 (by omega))

/-- The gradients before the activation, stacked. -/
def dpres : Mat F 16 1024 := stack 16 1024 (by decide) fun j => (P C j).dpre
/-- The hidden rows, stacked. -/
def hs : Mat F 16 1024 := stack 16 1024 (by decide) fun j => (P C j).h
/-- The gradients at the predictions, stacked. -/
def dps : Mat F 16 256 := stack 16 256 (by decide) fun j => (P C j).dp

end End

end Cert.Proof.Chunk

end
-- ==== Proof.Prologue.lean ====
/-
  What the kernel does before its loop: each of the block's two rows is projected, activated and normalised, its gates are
  taken, and the scratch receives the sums of the matrices beside momenta of zero.
-/
module

public import proofs.«01_k».proof.Proof.KernelRun
public import proofs.«01_k».proof.Proof.Chunk
public import Idealize.ShloMosaic.Lib.Tactic

@[expose] public section

set_option maxRecDepth 16384

noncomputable section

namespace Cert.Proof.Chunk

open Idealize.ShloMosaic Cert.KernelIdeal Cert.KernelIdeal.Gen Idealize.ShloMosaic.TcCoe
open Cert.Proof.Launch (kernelRun)

variable {F : FTy → Type} [FloatOps F]

/-- A row's projection by the fused weights. -/
def proj (x : Vec F S1x64x256 .f32) (w : Vec F S256x896 .f32) : Mat F 64 896 :=
  mul (shapeCast S64x256 x shapeCasts_S1x64x256_S64x256) (shapeCast S256x896 w shapeCasts_S256x896_S256x896)

/-- The activation. -/
def silu {m n : ℕ} (x : Mat F m n) : Mat F m n := mulf x (logistic x)

/-- The rows divided by their norms. -/
def unitRows (x : Mat F 64 256) : Mat F 64 256 :=
  divf x (bcol 256 (maximumf (sqrt (shapeCast S64x1
    (multiReduction .add [1] S64 (mulf x x) 0x00000000#32 reduces_S64x256_S64 (.inl rfl) rfl) shapeCasts_S64_S64x1))
    (broadcast (M 64 1) (Scalar.ofBits .f32 0x2B8CBCCC#32))))

/-- The gates. -/
def gates (x : Mat F 64 128) : Mat F 64 128 :=
  mulf (logistic x) (broadcastTo S64x128 (select (cmpi .eq (iota .tc S1x128 32 [1] iota_S1x128_d1_w32) (broadcast S1x128 1#32))
    (broadcast S1x128 (Scalar.ofBits .f32 0x3DCCCCCD#32)) (broadcast S1x128 (Scalar.ofBits .f32 0x3F800000#32))) broadcasts_S1x128_S64x128)

/-- The momenta's zeros. -/
def zeros (m n : ℕ) : Mat F m n := broadcast (M m n) (Scalar.ofBits .f32 0x00000000#32)

/-- The stores of the activations of both rows. -/
def actPieces (fp : Fin 2 → Mat F 64 896) : List (View.Piece (Elt F) S2x64x768 .f32) :=
  [⟨Rect.unit (s := S2x64x768) ![1, 0, 512] S1x64x256.size inb_S2x64x768_S1x64x256_1_0_512,
      shapeCast S1x64x256 (silu (sl 64 256 (fp 1) 0 512 (by decide))) shapeCasts_S64x256_S1x64x256⟩,
   ⟨Rect.unit (s := S2x64x768) ![1, 0, 256] S1x64x256.size inb_S2x64x768_S1x64x256_1_0_256,
      shapeCast S1x64x256 (unitRows (silu (sl 64 256 (fp 1) 0 256 (by decide)))) shapeCasts_S64x256_S1x64x256⟩,
   ⟨Rect.unit (s := S2x64x768) ![1, 0, 0] S1x64x256.size inb_S2x64x768_S1x64x256_1_0_0,
      shapeCast S1x64x256 (unitRows (silu (sl 64 256 (fp 1) 0 0 (by decide)))) shapeCasts_S64x256_S1x64x256⟩,
   ⟨Rect.unit (s := S2x64x768) ![0, 0, 512] S1x64x256.size inb_S2x64x768_S1x64x256_0_0_512,
      shapeCast S1x64x256 (silu (sl 64 256 (fp 0) 0 512 (by decide))) shapeCasts_S64x256_S1x64x256⟩,
   ⟨Rect.unit (s := S2x64x768) ![0, 0, 256] S1x64x256.size inb_S2x64x768_S1x64x256_0_0_256,
      shapeCast S1x64x256 (unitRows (silu (sl 64 256 (fp 0) 0 256 (by decide)))) shapeCasts_S64x256_S1x64x256⟩,
   ⟨Rect.unit (s := S2x64x768) ![0, 0, 0] S1x64x256.size inb_S2x64x768_S1x64x256_0_0_0,
      shapeCast S1x64x256 (unitRows (silu (sl 64 256 (fp 0) 0 0 (by decide)))) shapeCasts_S64x256_S1x64x256⟩]

/-- The stores of the gates of both rows. -/
def gatePieces (fp : Fin 2 → Mat F 64 896) : List (View.Piece (Elt F) S2x64x128 .f32) :=
  [⟨Rect.unit (s := S2x64x128) ![1, 0, 0] S1x64x128.size inb_S2x64x128_S1x64x128_1_0_0,
      shapeCast S1x64x128 (gates (sl 64 128 (fp 1) 0 768 (by decide))) shapeCasts_S64x128_S1x64x128⟩,
   ⟨Rect.unit (s := S2x64x128) ![0, 0, 0] S1x64x128.size inb_S2x64x128_S1x64x128_0_0_0,
      shapeCast S1x64x128 (gates (sl 64 128 (fp 0) 0 768 (by decide))) shapeCasts_S64x128_S1x64x128⟩]

/-- The stores of a wide matrix beside zeros, the same for both rows. -/
def widePieces (y : Mat F 256 1024) : List (View.Piece (Elt F) S2x256x2048 .f32) :=
  [⟨Rect.unit (s := S2x256x2048) ![1, 0, 1024] S1x256x1024.size inb_S2x256x2048_S1x256x1024_1_0_1024,
      shapeCast S1x256x1024 (zeros 256 1024) shapeCasts_S256x1024_S1x256x1024⟩,
   ⟨Rect.unit (s := S2x256x2048) ![1, 0, 0] S1x256x1024.size inb_S2x256x2048_S1x256x1024_1_0_0,
      shapeCast S1x256x1024 y shapeCasts_S256x1024_S1x256x1024⟩,
   ⟨Rect.unit (s := S2x256x2048) ![0, 0, 1024] S1x256x1024.size inb_S2x256x2048_S1x256x1024_0_0_1024,
      shapeCast S1x256x1024 (zeros 256 1024) shapeCasts_S256x1024_S1x256x1024⟩,
   ⟨Rect.unit (s := S2x256x2048) ![0, 0, 0] S1x256x1024.size inb_S2x256x2048_S1x256x1024_0_0_0,
      shapeCast S1x256x1024 y shapeCasts_S256x1024_S1x256x1024⟩]

/-- The stores of a tall matrix beside zeros, the same for both rows. -/
def tallPieces (y : Mat F 1024 256) : List (View.Piece (Elt F) S2x1024x512 .f32) :=
  [⟨Rect.unit (s := S2x1024x512) ![1, 0, 256] S1x1024x256.size inb_S2x1024x512_S1x1024x256_1_0_256,
      shapeCast S1x1024x256 (zeros 1024 256) shapeCasts_S1024x256_S1x1024x256⟩,
   ⟨Rect.unit (s := S2x1024x512) ![1, 0, 0] S1x1024x256.size inb_S2x1024x512_S1x1024x256_1_0_0,
      shapeCast S1x1024x256 y shapeCasts_S1024x256_S1x1024x256⟩,
   ⟨Rect.unit (s := S2x1024x512) ![0, 0, 256] S1x1024x256.size inb_S2x1024x512_S1x1024x256_0_0_256,
      shapeCast S1x1024x256 (zeros 1024 256) shapeCasts_S1024x256_S1x1024x256⟩,
   ⟨Rect.unit (s := S2x1024x512) ![0, 0, 0] S1x1024x256.size inb_S2x1024x512_S1x1024x256_0_0_0,
      shapeCast S1x1024x256 y shapeCasts_S1024x256_S1x1024x256⟩]

/-- A whole matrix, loaded. -/
def whole {m n : ℕ} (a : Memref sig .tc .vmem ⟨2, ![m, n]⟩ .f32) (h : a.IsWhole)
    (inb : ∀ i, (![0, 0] : Fin 2 → ℕ) i + (![m, n] : Fin 2 → ℕ) i ≤ (⟨2, ![m, n]⟩ : Shape).size i) (x : Mat F m n) : Mat F m n :=
  a.view.readAt (Elt F) (Rect.unit (s := ⟨2, ![m, n]⟩) ![0, 0] ![m, n] inb).toLoadRect (h.unread x)

variable (c : Dev nD) (i : grid0.Coords)
  (arg1 : Memref sig .tc .vmem S2x64x256 .f32) (harg1 : arg1.IsWhole) (arg2 : Memref sig .tc .vmem S256x896 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S2x64x1x256 .f32) (harg9 : arg9.IsWhole) (arg10 : Memref sig .tc .vmem S2x64x768 .f32) (harg10 : arg10.IsWhole) (arg11 : Memref sig .tc .vmem S2x64x128 .f32) (harg11 : arg11.IsWhole) (arg12 : Memref sig .tc .vmem S2x256x2048 .f32) (harg12 : arg12.IsWhole) (arg13 : Memref sig .tc .vmem S2x1024x512 .f32) (harg13 : arg13.IsWhole) (arg14 : Memref sig .tc .vmem S2x256x2048 .f32) (harg14 : arg14.IsWhole)
  (x0 : Vec F S2x64x256 .f32) (x1 : Vec F S256x896 .f32) (x2 : Vec F S256x1024 .f32) (x3 : Vec F S256x1024 .f32)
  (x4 : Vec F S256x1024 .f32) (x5 : Vec F S256x1024 .f32) (x6 : Vec F S1024x256 .f32) (x7 : Vec F S1024x256 .f32)

/-- The two rows' projections. -/
def projs : Fin 2 → Mat F 64 896
  | 0 => proj (arg1.view.readAt (Elt F) (Rect.unit (s := S2x64x256) ![0, 0, 0] S1x64x256.size inb_S2x64x256_S1x64x256_0_0_0).toLoadRect (harg1.unread x0))
      (whole arg2 harg2 inb_S256x896_S256x896_0_0 x1)
  | 1 => proj (arg1.view.readAt (Elt F) (Rect.unit (s := S2x64x256) ![1, 0, 0] S1x64x256.size inb_S2x64x256_S1x64x256_1_0_0).toLoadRect (harg1.unread x0))
      (whole arg2 harg2 inb_S256x896_S256x896_0_0 x1)

/-- What the kernel stores into its output block: the loop's stores, from the scratch as it is before the loop. -/
theorem run_pieces : (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1
    = (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 k0_pay956 k0_pay957 k0_pay958 k0_pay959 k0_pay960 k0_pay961 k0_pay962 k0_pay963 k0_pay964 k0_pay965 k0_pay966 k0_pay967 k0_pay968 k0_pay969 k0_pay970 k0_pay971 k0_pay972 k0_pay973 k0_pay974 k0_pay975 k0_pay976 k0_pay977 k0_pay978 k0_pay979 k0_pay980 k0_pay981 k0_pay982 k0_pay983 k0_pay984 k0_pay985 k0_pay986 k0_pay987 k0_pay988 k0_pay989
      (arg10.view.writes (Elt F) arg10.view.junk (actPieces (projs arg1 harg1 arg2 harg2 x0 x1)))
      (arg11.view.writes (Elt F) arg11.view.junk (gatePieces (projs arg1 harg1 arg2 harg2 x0 x1)))
      arg9.view.junk
      (arg12.view.writes (Elt F) arg12.view.junk (widePieces (addf (whole arg3 harg3 inb_S256x1024_S256x1024_0_0 x2) (whole arg4 harg4 inb_S256x1024_S256x1024_0_0 x3))))
      (arg13.view.writes (Elt F) arg13.view.junk (tallPieces (addf (whole arg7 harg7 inb_S1024x256_S1024x256_0_0 x6) (whole arg8 harg8 inb_S1024x256_S1024x256_0_0 x7))))
      (arg14.view.writes (Elt F) arg14.view.junk (widePieces (addf
        (shapeCast S256x1024 (whole arg5 harg5 inb_S256x1024_S256x1024_0_0 x4) shapeCasts_S256x1024_S256x1024)
        (shapeCast S256x1024 (whole arg6 harg6 inb_S256x1024_S256x1024_0_0 x5) shapeCasts_S256x1024_S256x1024))))
      k0_t1_loop.trips).1 := by
  sl_kernel_rfl

end Cert.Proof.Chunk

end
-- ==== Proof.Memory.lean ====
/-
  The memory network's mathematics, over the reals and free of both programs: one step of the momentum update, the
  trajectory it generates, and the closed form of a run of steps in which the matrices are kept at their values at the
  run's start and each later step is added as a weighted sum of outer products.
-/
module

public import Mathlib.Analysis.SpecialFunctions.Exp
public import Mathlib.Algebra.BigOperators.Ring.Finset
public import Mathlib.Tactic.Ring
public import Mathlib.Tactic.LinearCombination

@[expose] public section

noncomputable section

namespace Cert.Proof.Memory

open Finset

/-- The logistic function. -/
def sg (x : ℝ) : ℝ := (1 + Real.exp (-x))⁻¹

/-- The activation `x · logistic x`. -/
def act (x : ℝ) : ℝ := x * sg x

/-- The derivative of the activation, as the backward pass writes it. -/
def dact (x : ℝ) : ℝ := sg x * (1 + x * (1 - sg x))

/-! ## The scalar recurrence and its closed form -/

section Coefficients

variable (keep c e : ℕ → ℝ)

/-- The weight of the starting value after `s` steps. -/
def lam : ℕ → ℝ
  | 0 => 1
  | s + 1 => keep s * lam s

/-- The weight of the starting momentum in the momentum after `s` steps. -/
def en : ℕ → ℝ
  | 0 => 1
  | s + 1 => e s * en s

/-- The weight of the starting momentum in the value after `s` steps. -/
def sgc : ℕ → ℝ
  | 0 => 0
  | s + 1 => keep s * sgc s + en e (s + 1)

/-- The weight of step `j`'s gradient in the momentum after `s` steps. -/
def mm : ℕ → ℕ → ℝ
  | 0, _ => 0
  | s + 1, j => e s * mm s j - c s * (if j = s then 1 else 0)

/-- The weight of step `j`'s gradient in the value after `s` steps. -/
def be : ℕ → ℕ → ℝ
  | 0, _ => 0
  | s + 1, j => keep s * be s j + mm c e (s + 1) j

/-- A step not yet taken weighs nothing in the momentum. -/
theorem mm_zero (s j : ℕ) (h : s ≤ j) : mm c e s j = 0 := by
  induction s with
  | zero => rfl
  | succ s ih => rw [mm, ih (by omega), if_neg (by omega)]; ring

/-- A step not yet taken weighs nothing in the value. -/
theorem be_zero (s j : ℕ) (h : s ≤ j) : be keep c e s j = 0 := by
  induction s with
  | zero => rfl
  | succ s ih => rw [be, ih (by omega), mm_zero c e _ _ h]; ring

/-- The momentum of a scalar recurrence after `s` steps, as a weighted sum of the gradients so far. -/
theorem momentum_closed (M G : ℕ → ℝ) (hM : ∀ s, M (s + 1) = e s * M s - c s * G s) (s : ℕ) :
    M s = en e s * M 0 + ∑ j ∈ range s, mm c e s j * G j := by
  induction s with
  | zero => simp [en]
  | succ s ih =>
    rw [hM, ih, sum_range_succ]
    have h : ∑ j ∈ range s, mm c e (s + 1) j * G j = e s * ∑ j ∈ range s, mm c e s j * G j := by
      rw [mul_sum]
      refine sum_congr rfl fun j hj => ?_
      rw [mm, if_neg (by have := mem_range.1 hj; omega)]; ring
    rw [h, mm, mm_zero c e s s le_rfl, if_pos rfl, en]; ring

/-- The value of a scalar recurrence after `s` steps, as a weighted sum of the gradients so far. -/
theorem value_closed (X M G : ℕ → ℝ) (hM : ∀ s, M (s + 1) = e s * M s - c s * G s)
    (hX : ∀ s, X (s + 1) = keep s * X s + M (s + 1)) (s : ℕ) :
    X s = lam keep s * X 0 + sgc keep e s * M 0 + ∑ j ∈ range s, be keep c e s j * G j := by
  induction s with
  | zero => simp [lam, sgc]
  | succ s ih =>
    rw [hX, ih, momentum_closed c e M G hM (s + 1), sum_range_succ, sum_range_succ]
    have h : ∑ j ∈ range s, be keep c e (s + 1) j * G j
        = keep s * ∑ j ∈ range s, be keep c e s j * G j + ∑ j ∈ range s, mm c e (s + 1) j * G j := by
      rw [mul_sum, ← sum_add_distrib]
      refine sum_congr rfl fun j _ => ?_
      rw [be]; ring
    rw [h, be, be_zero keep c e s s le_rfl, lam, sgc]; ring

end Coefficients

/-! ## One step, and the trajectory -/

variable {ι δ : Type} [Fintype ι] [Fintype δ]

/-- What one step reads: the key, the query and the value, and the three gates. -/
structure Inp (ι : Type) where
  k : ι → ℝ
  q : ι → ℝ
  v : ι → ℝ
  keep : ℝ
  c : ℝ
  e : ℝ

/-- The two matrices of the memory and their momenta. -/
structure St (ι δ : Type) where
  A : ι → δ → ℝ
  MA : ι → δ → ℝ
  B : δ → ι → ℝ
  MB : δ → ι → ℝ

/-- A row times a matrix. -/
def vm {α β : Type} [Fintype α] (z : α → ℝ) (W : α → β → ℝ) (b : β) : ℝ := ∑ a, z a * W a b

/-- The hidden row of the key. -/
def hid (S : St ι δ) (x : Inp ι) (d : δ) : ℝ := act (vm x.k S.A d)

/-- The gradient of the mean squared error at the prediction, with the factor `g` of the mean. -/
def dpr (g : ℝ) (S : St ι δ) (x : Inp ι) (j : ι) : ℝ := g * (vm (hid S x) S.B j - x.v j)

/-- The gradient at the hidden row before the activation. -/
def dpre (g : ℝ) (S : St ι δ) (x : Inp ι) (d : δ) : ℝ := (∑ j, dpr g S x j * S.B d j) * dact (vm x.k S.A d)

/-- One step: the momenta take the gradients, the matrices take the momenta. -/
def next (g : ℝ) (S : St ι δ) (x : Inp ι) : St ι δ where
  MA i d := x.e * S.MA i d - x.c * (x.k i * dpre g S x d)
  A i d := x.keep * S.A i d + (x.e * S.MA i d - x.c * (x.k i * dpre g S x d))
  MB d j := x.e * S.MB d j - x.c * (hid S x d * dpr g S x j)
  B d j := x.keep * S.B d j + (x.e * S.MB d j - x.c * (hid S x d * dpr g S x j))

/-- What the memory answers to the query. -/
def ans (S : St ι δ) (q : ι → ℝ) (j : ι) : ℝ := vm (fun d => act (vm q S.A d)) S.B j

/-- The states from `S` on under the inputs `X`. -/
def traj (g : ℝ) (X : ℕ → Inp ι) (S : St ι δ) : ℕ → St ι δ
  | 0 => S
  | n + 1 => next g (traj g X S n) (X n)

/-- Going on from a state of the trajectory is the trajectory. -/
theorem traj_add (g : ℝ) (X : ℕ → Inp ι) (S : St ι δ) (a b : ℕ) :
    traj g X S (a + b) = traj g (fun n => X (a + n)) (traj g X S a) b := by
  induction b with
  | zero => rfl
  | succ b ih => rw [← Nat.add_assoc, traj, ih, traj]

/-! ## A run of steps from a state held fixed -/

section Run

variable (g : ℝ) (X : ℕ → Inp ι) (S : St ι δ)

/-- The first matrix's weight, of a run. -/
abbrev rlam := lam fun n => (X n).keep
/-- The first momentum's weight, of a run. -/
abbrev rsgc := sgc (fun n => (X n).keep) fun n => (X n).e
/-- The momentum's own scale, of a run. -/
abbrev ren := en fun n => (X n).e
/-- The matrix's coefficients, of a run. -/
abbrev rbe := be (fun n => (X n).keep) (fun n => (X n).c) fun n => (X n).e
/-- The momentum's coefficients, of a run. -/
abbrev rmm := mm (fun n => (X n).c) fun n => (X n).e

/-- The hidden row, at a step of a run. -/
abbrev rh (n : ℕ) := hid (traj g X S n) (X n)
/-- The gradient at the prediction, at a step of a run. -/
abbrev rdp (n : ℕ) := dpr g (traj g X S n) (X n)
/-- The gradient before the activation, at a step of a run. -/
abbrev rdpre (n : ℕ) := dpre g (traj g X S n) (X n)
/-- The answer's hidden row, at a step of a run. -/
abbrev rh2 (n : ℕ) (d : δ) := act (vm (X n).q (traj g X S (n + 1)).A d)

/-- The first matrix after `s` steps. -/
theorem traj_A (s : ℕ) (i : ι) (d : δ) : (traj g X S s).A i d
    = rlam X s * S.A i d + rsgc X s * S.MA i d + ∑ j ∈ range s, rbe X s j * ((X j).k i * rdpre g X S j d) :=
  value_closed _ _ _ (fun n => (traj g X S n).A i d) (fun n => (traj g X S n).MA i d)
    (fun j => (X j).k i * rdpre g X S j d) (fun _ => rfl) (fun _ => rfl) s

/-- The first matrix's momentum after `s` steps. -/
theorem traj_MA (s : ℕ) (i : ι) (d : δ) : (traj g X S s).MA i d
    = ren X s * S.MA i d + ∑ j ∈ range s, rmm X s j * ((X j).k i * rdpre g X S j d) :=
  momentum_closed _ _ (fun n => (traj g X S n).MA i d) (fun j => (X j).k i * rdpre g X S j d) (fun _ => rfl) s

/-- The second matrix after `s` steps. -/
theorem traj_B (s : ℕ) (d : δ) (j : ι) : (traj g X S s).B d j
    = rlam X s * S.B d j + rsgc X s * S.MB d j + ∑ n ∈ range s, rbe X s n * (rh g X S n d * rdp g X S n j) :=
  value_closed _ _ _ (fun n => (traj g X S n).B d j) (fun n => (traj g X S n).MB d j)
    (fun n => rh g X S n d * rdp g X S n j) (fun _ => rfl) (fun _ => rfl) s

/-- The second matrix's momentum after `s` steps. -/
theorem traj_MB (s : ℕ) (d : δ) (j : ι) : (traj g X S s).MB d j
    = ren X s * S.MB d j + ∑ n ∈ range s, rmm X s n * (rh g X S n d * rdp g X S n j) :=
  momentum_closed _ _ (fun n => (traj g X S n).MB d j) (fun n => rh g X S n d * rdp g X S n j) (fun _ => rfl) s

/-- A row times a matrix given as two matrices and a weighted sum of outer products. -/
theorem vm_split {α β : Type} [Fintype α] (z : α → ℝ) (W P Q : α → β → ℝ) (l m : ℝ) (s : ℕ) (w : ℕ → ℝ)
    (y : ℕ → α → ℝ) (r : ℕ → β → ℝ) (b : β)
    (hW : ∀ a, W a b = l * P a b + m * Q a b + ∑ j ∈ range s, w j * (y j a * r j b)) :
    vm z W b = l * vm z P b + m * vm z Q b + ∑ j ∈ range s, w j * (∑ a, z a * y j a) * r j b := by
  simp only [vm, hW, mul_add, sum_add_distrib, mul_sum, sum_mul]
  congr 1
  · congr 1 <;> exact sum_congr rfl fun a _ => by ring
  · rw [sum_comm]
    exact sum_congr rfl fun j _ => sum_congr rfl fun a _ => by ring

/-- Step `s`'s hidden row before the activation, from the state held fixed. -/
theorem run_u (s : ℕ) (z : ι → ℝ) (d : δ) : vm z (traj g X S s).A d
    = rlam X s * vm z S.A d + rsgc X s * vm z S.MA d
      + ∑ j ∈ range s, rbe X s j * (∑ i, z i * (X j).k i) * rdpre g X S j d :=
  vm_split z _ _ _ _ _ s _ (fun j => (X j).k) (fun j => rdpre g X S j) d fun i => traj_A g X S s i d

/-- A row through the second matrix, from the state held fixed. -/
theorem run_p (s : ℕ) (z : δ → ℝ) (j : ι) : vm z (traj g X S s).B j
    = rlam X s * vm z S.B j + rsgc X s * vm z S.MB j
      + ∑ n ∈ range s, rbe X s n * (∑ d, z d * rh g X S n d) * rdp g X S n j :=
  vm_split z _ _ _ _ _ s _ (fun n => rh g X S n) (fun n => rdp g X S n) j fun d => traj_B g X S s d j

/-- A row back through the second matrix, from the state held fixed. -/
theorem run_b (s : ℕ) (z : ι → ℝ) (d : δ) : ∑ j, z j * (traj g X S s).B d j
    = rlam X s * ∑ j, z j * S.B d j + rsgc X s * ∑ j, z j * S.MB d j
      + ∑ n ∈ range s, rbe X s n * (∑ j, z j * rdp g X S n j) * rh g X S n d :=
  vm_split z (fun j d => (traj g X S s).B d j) (fun j d => S.B d j) (fun j d => S.MB d j) _ _ s _
    (fun n => rdp g X S n) (fun n => rh g X S n) d fun j => by
      rw [traj_B]; congr 1; exact sum_congr rfl fun n _ => by ring

end Run

end Cert.Proof.Memory

end
-- ==== Proof.Rep.lean ====
/-
  The chunk's building blocks over the reals: each read entry by entry, at arrays whose entries are real numbers.
-/
module

public import proofs.«01_k».proof.Proof.Chunk
public import Idealize.ShloMosaic.Lib.MatmulPlain
public import Idealize.ShloMosaic.Lib.Pointwise
public import Mathlib.Algebra.BigOperators.Fin

@[expose] public section

noncomputable section

namespace Cert.Proof.Chunk

open Idealize.ShloMosaic hiding ix2
open Idealize.ShloMosaic.ValueIdx Finset

/-- The entries of `x` are the real numbers `f`. -/
def Rep {m n : ℕ} (x : Mat Ideal m n) (f : Fin m → Fin n → ℝ) : Prop := ∀ a b, x (ix2 a b) = ((f a b : ℝ) : EReal)

/-- A sum of real numbers. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [sum_insert h, sum_insert h, EReal.coe_add, ih]

variable {m n k a b : ℕ}

/-- Equal reals are held alike. -/
theorem Rep.congr {x : Mat Ideal m n} {f g : Fin m → Fin n → ℝ} (h : Rep x f) (e : ∀ a b, f a b = g a b) : Rep x g :=
  fun a b => by rw [h, e]

/-- An entry of a part. -/
theorem sl_apply (x : Mat Ideal a b) (o p : ℕ) (h : o + m ≤ a ∧ p + n ≤ b) (i : Fin m) (j : Fin n) :
    sl m n x o p h (ix2 i j) = x (ix2 ⟨o + i, by omega⟩ ⟨p + j, by omega⟩) := by
  unfold sl extractStridedSlice
  congr 1; funext d; match d with | 0 => rfl | 1 => rfl

/-- A part of a matrix. -/
theorem rep_sl {x : Mat Ideal a b} {f : Fin a → Fin b → ℝ} (hx : Rep x f) (o p : ℕ) (h : o + m ≤ a ∧ p + n ≤ b) :
    Rep (sl m n x o p h) fun i j => f ⟨o + i, by omega⟩ ⟨p + j, by omega⟩ := fun i j => by
  rw [← hx, sl_apply]

/-- One entry, spread. -/
theorem rep_bc {x : Mat Ideal 1 1} {f : Fin 1 → Fin 1 → ℝ} (hx : Rep x f) : Rep (bc m n x) fun _ _ => f 0 0 := fun i j => by
  rw [← hx]; unfold bc broadcastTo
  congr 1; funext d; match d with | 0 => rfl | 1 => rfl

/-- A column, spread. -/
theorem rep_bcol {x : Mat Ideal m 1} {f : Fin m → Fin 1 → ℝ} (hx : Rep x f) : Rep (bcol n x) fun i _ => f i 0 := fun i j => by
  rw [← hx]; unfold bcol broadcastTo
  congr 1; funext d
  match d with
  | 0 =>
    by_cases h : (M m 1).size 0 = 1
    · rw [dif_pos h]; apply Fin.ext; have := i.isLt; change m = 1 at h; change 0 = i.val; omega
    · rw [dif_neg h]; rfl
  | 1 => rfl

/-- An entry of the zero array. -/
theorem zero_entry (s : Shape) (j : s.Idx) : (constant s .f32 0x00000000#32 : FVec Ideal s .f32) j = 0 :=
  Ideal.ofBits_zero .f32

/-- A product. -/
theorem rep_mul {x : Mat Ideal m k} {y : Mat Ideal k n} {f : Fin m → Fin k → ℝ} {g : Fin k → Fin n → ℝ} (hx : Rep x f)
    (hy : Rep y g) : Rep (mul x y) fun i j => ∑ l, f i l * g l j := fun i j => by
  refine (Ideal.matmul_plain_apply none x y _ i j).trans ?_
  rw [zero_entry, zero_add, coe_sum]
  exact sum_congr rfl fun l _ => by rw [hx, hy, EReal.coe_mul]

/-- A product with the second factor transposed. -/
theorem rep_mulT {x : Mat Ideal m k} {y : Mat Ideal n k} {f : Fin m → Fin k → ℝ} {g : Fin n → Fin k → ℝ} (hx : Rep x f)
    (hy : Rep y g) : Rep (mulT x y) fun i j => ∑ l, f i l * g j l := fun i j => by
  refine (Ideal.matmul_transposedRhs_apply none x y _ i j).trans ?_
  rw [zero_entry, zero_add, coe_sum]
  exact sum_congr rfl fun l _ => by rw [hx, hy, EReal.coe_mul]

/-- The sum of such a product runs over one axis. -/
theorem tdot_rank (k m n : ℕ) : (tdot k m n).contr.rank = 1 := rfl
/-- That axis has the length of the columns. -/
theorem tdot_size (k m n : ℕ) : (tdot k m n).contr.size ⟨0, by rw [tdot_rank]; exact Nat.one_pos⟩ = k := rfl

/-- A product with the first factor transposed. -/
theorem rep_Tmul {x : Mat Ideal k m} {y : Mat Ideal k n} {f : Fin k → Fin m → ℝ} {g : Fin k → Fin n → ℝ} (hx : Rep x f)
    (hy : Rep y g) : Rep (Tmul x y) fun i j => ∑ l, f l i * g l j := fun i j => by
  refine (Ideal.matmul_apply (tdot k m n) none x y _ (ix2 i j)).trans ?_
  rw [zero_entry, zero_add, coe_sum, ← Equiv.sum_comp (contrEquiv1 (tdot k m n) k (tdot_rank k m n) (tdot_size k m n)).symm]
  refine sum_congr rfl fun l _ => ?_
  have hk := contrEquiv1_symm_val (tdot k m n) k (tdot_rank k m n) (tdot_size k m n) l
  have el : (tdot k m n).lhsIdx (ix2 i j) ((contrEquiv1 (tdot k m n) k (tdot_rank k m n) (tdot_size k m n)).symm l) = ix2 l i := by
    funext a; apply Fin.ext
    match a with
    | ⟨0, _⟩ => exact hk
    | ⟨1, _⟩ => rfl
  have er : (tdot k m n).rhsIdx (ix2 i j) ((contrEquiv1 (tdot k m n) k (tdot_rank k m n) (tdot_size k m n)).symm l) = ix2 l j := by
    funext a; apply Fin.ext
    match a with
    | ⟨0, _⟩ => exact hk
    | ⟨1, _⟩ => rfl
  rw [el, er, hx, hy, EReal.coe_mul]

/-- Rows, stacked. -/
theorem rep_stack (h : 2 ≤ n) {x : Fin n → Mat Ideal 1 b} {f : Fin n → Fin b → ℝ} (hx : ∀ j, Rep (x j) fun _ => f j) :
    Rep (stack n b h x) f := fun i j => by
  rw [← hx i 0]
  refine (concatenate_ofFn_unit_apply' (t := M n b) (s₁ := M 1 b) 0 x (concats b n x h) rfl (ix2 i j)).trans ?_
  congr 1; funext d; apply Fin.ext
  match d with | 0 => rfl | 1 => rfl

/-- Two matrices side by side. -/
theorem rep_side {p : ℕ} (hp : p = n + n) {x y : Mat Ideal m n} {f g : Fin m → Fin n → ℝ} (hx : Rep x f) (hy : Rep y g) :
    Rep (side p hp x y) fun i j => if h : j.val < n then f i ⟨j, h⟩ else g i ⟨j - n, by omega⟩ := fun i j => by
  refine (concatenate_pair_apply (t := M m p) 1 x y (concats_side m n p hp) (ix2 i j)).trans ?_
  by_cases h : j.val < n
  · refine (dif_pos h).trans ?_; beta_reduce; rw [dif_pos h]
    rw [← hx]; congr 1; funext d; apply Fin.ext; match d with | 0 => rfl | 1 => rfl
  · refine (dif_neg h).trans ?_; beta_reduce; rw [dif_neg h]
    rw [← hy]; congr 1; funext d; apply Fin.ext; match d with | 0 => rfl | 1 => rfl

/-- Two matrices one atop the other. -/
theorem rep_atop {p : ℕ} (hp : p = m + m) {x y : Mat Ideal m n} {f g : Fin m → Fin n → ℝ} (hx : Rep x f) (hy : Rep y g) :
    Rep (atop p hp x y) fun i j => if h : i.val < m then f ⟨i, h⟩ j else g ⟨i - m, by omega⟩ j := fun i j => by
  refine (concatenate_pair_apply (t := M p n) 0 x y (concats_atop m n p hp) (ix2 i j)).trans ?_
  by_cases h : i.val < m
  · refine (dif_pos h).trans ?_; beta_reduce; rw [dif_pos h]
    rw [← hx]; congr 1; funext d; apply Fin.ext; match d with | 0 => rfl | 1 => rfl
  · refine (dif_neg h).trans ?_; beta_reduce; rw [dif_neg h]
    rw [← hy]; congr 1; funext d; apply Fin.ext; match d with | 0 => rfl | 1 => rfl

section Entries

variable {x y : Mat Ideal m n} {f g : Fin m → Fin n → ℝ}

/-- A sum. -/
theorem rep_addf (hx : Rep x f) (hy : Rep y g) : Rep (addf x y) fun i j => f i j + g i j := fun i j => by
  change x (ix2 i j) + y (ix2 i j) = _; rw [hx, hy, EReal.coe_add]

/-- A difference. -/
theorem rep_subf (hx : Rep x f) (hy : Rep y g) : Rep (subf x y) fun i j => f i j - g i j := fun i j => by
  change x (ix2 i j) - y (ix2 i j) = _; rw [hx, hy, EReal.coe_sub]

/-- An entrywise product. -/
theorem rep_mulf (hx : Rep x f) (hy : Rep y g) : Rep (mulf x y) fun i j => f i j * g i j := fun i j => by
  change x (ix2 i j) * y (ix2 i j) = _; rw [hx, hy, EReal.coe_mul]

/-- The logistic function, entrywise. -/
theorem rep_logistic (hx : Rep x f) : Rep (logistic x) fun i j => (1 + Real.exp (-f i j))⁻¹ := fun i j => by
  change Ideal.logistic (x (ix2 i j)) = _; rw [hx, Ideal.logistic_coe]

/-- A constant. -/
theorem rep_broadcast {v : Ideal .f32} {r : ℝ} (h : v = (r : EReal)) : Rep (broadcast (M m n) v) fun _ _ => r := fun _ _ => h

end Entries

/-- The literals. -/
theorem lit_one : (Scalar.ofBits .f32 0x3F800000#32 : Ideal .f32) = ((1 : ℝ) : EReal) := by
  change Ideal.ofBits .f32 _ = _
  norm_num [Ideal.ofBits, Ideal.ieee, Nat.shiftRight_eq_div_pow, BitVec.extractLsb'_eq_extractLsb]

/-- Zero, as its word. -/
theorem lit_zero : (Scalar.ofBits .f32 0x00000000#32 : Ideal .f32) = ((0 : ℝ) : EReal) := by
  refine (Ideal.ofBits_zero .f32).trans (by simp)

/-- Two, as its word. -/
theorem lit_two : (Scalar.ofBits .f32 0x40000000#32 : Ideal .f32) = ((2 : ℝ) : EReal) := by
  change Ideal.ofBits .f32 _ = _
  norm_num [Ideal.ofBits, Ideal.ieee, Nat.shiftRight_eq_div_pow, BitVec.extractLsb'_eq_extractLsb]

/-- The factor of the mean, as its word. -/
theorem lit_g : (Scalar.ofBits .f32 0x3C000000#32 : Ideal .f32) = ((1 / 128 : ℝ) : EReal) := by
  change Ideal.ofBits .f32 _ = _
  norm_num [Ideal.ofBits, Ideal.ieee, Nat.shiftRight_eq_div_pow, BitVec.extractLsb'_eq_extractLsb]

end Cert.Proof.Chunk

end
-- ==== Proof.Activations.lean ====
/-
  A time step's inputs to the memory, of a row of `x` and the fused weights, over the reals: the key and the query are
  activated and divided by their norm, the value is activated, and the three gates are logistic.
-/
module

public import proofs.«01_k».proof.Proof.Memory
public import proofs.«01_k».proof.Proof.Rep
public import Mathlib.Analysis.Real.Sqrt

@[expose] public section

noncomputable section

namespace Cert.Proof.Memory

open Finset Idealize.ShloMosaic

/-- The largest adaptive learning rate, and the least norm a row is divided by: the reals of the two constants. -/
def tau : ℝ := 13421773 / 134217728
/-- The floor of the norms, the rational that its word is. -/
def eps : ℝ := 9223372 / 9223372036854775808

/-- The step size's scale, as its word. -/
theorem lit_tau : Ideal.ofBits .f32 0x3DCCCCCD#32 = ((tau : ℝ) : EReal) := by
  norm_num [tau, Ideal.ofBits, Ideal.ieee, Nat.shiftRight_eq_div_pow, BitVec.extractLsb'_eq_extractLsb]

/-- The norms' floor, as its word. -/
theorem lit_eps : Ideal.ofBits .f32 0x2B8CBCCC#32 = ((eps : ℝ) : EReal) := by
  norm_num [eps, Ideal.ofBits, Ideal.ieee, Nat.shiftRight_eq_div_pow, BitVec.extractLsb'_eq_extractLsb]

/-- The floor is positive. -/
theorem eps_pos : 0 < eps := by unfold eps; norm_num

/-- A row divided by its norm, or by `eps` if that is larger. -/
def nrm (z : Fin 256 → ℝ) (i : Fin 256) : ℝ := z i * (1 / max (Real.sqrt (∑ a, z a * z a)) eps)

/-- Both programs' division of a row by its norm. -/
theorem nrm_coe (z : Fin 256 → ℝ) (i : Fin 256) : Ideal.div (z i : EReal) (max (Ideal.sqrt ((∑ a, z a * z a : ℝ) : EReal)) (eps : EReal))
    = ((nrm z i : ℝ) : EReal) := by
  rw [Ideal.sqrt_coe, if_neg (not_lt.2 (sum_nonneg fun a _ => mul_self_nonneg (z a))), ← EReal.coe_strictMono.monotone.map_max,
    Ideal.div_coe (lt_of_lt_of_le eps_pos (le_max_right _ _)).ne', ← EReal.coe_mul]
  rfl

/-- A row through the fused weights. -/
def fp (W : Fin 771 → Fin 256 → ℝ) (x : Fin 256 → ℝ) (o : Fin 771) : ℝ := ∑ i, x i * W o i

/-- The inputs of one time step. -/
def inp (W : Fin 771 → Fin 256 → ℝ) (x : Fin 256 → ℝ) : Inp (Fin 256) where
  q := nrm fun i => act (fp W x ⟨i, by omega⟩)
  k := nrm fun i => act (fp W x ⟨256 + i, by omega⟩)
  v i := act (fp W x ⟨512 + i, by omega⟩)
  keep := 1 - sg (fp W x ⟨768, by omega⟩)
  c := 2 * (sg (fp W x ⟨769, by omega⟩) * tau)
  e := sg (fp W x ⟨770, by omega⟩)

/-- The inputs of a batch row, step by step. -/
def inputs (W : Fin 771 → Fin 256 → ℝ) (x : Fin 64 → Fin 256 → ℝ) (t : ℕ) : Inp (Fin 256) :=
  inp W (x ⟨t % 64, Nat.mod_lt _ (by decide)⟩)

/-- A step reads its row alone. -/
theorem inputs_of (W : Fin 771 → Fin 256 → ℝ) (x : Fin 64 → Fin 256 → ℝ) (t : Fin 64) : inputs W x t = inp W (x t) := by
  unfold inputs; congr 2; exact Fin.ext (Nat.mod_eq_of_lt t.isLt)

/-- The state every batch row starts from. -/
def start (w0 p0 : Fin 256 → Fin 1024 → ℝ) (w1 p1 : Fin 1024 → Fin 256 → ℝ) : St (Fin 256) (Fin 1024) where
  A i d := w0 i d + p0 i d
  MA _ _ := 0
  B d i := w1 d i + p1 d i
  MB _ _ := 0

end Cert.Proof.Memory

end
-- ==== Proof.Tie.lean ====
/-
  What a trip of the kernel's loop stores, as one chunk of sixteen steps for each of the two rows of the block.
-/
module

public import proofs.«01_k».proof.Proof.Chunk
public import proofs.«01_k».proof.Proof.Gen.KernelIdeal.Loops
public import Idealize.ShloMosaic.Lib.Tactic

@[expose] public section

set_option maxRecDepth 16384

noncomputable section

namespace Cert.Proof.Chunk

open Cert.KernelIdeal Cert.KernelIdeal.Gen Idealize.ShloMosaic Idealize.ShloMosaic.TcCoe

variable {F : FTy → Type} [FloatOps F] (𝒱 : Variants) (c : Dev nD) (bd : Option 𝒱.V) (i : grid0.Coords)
  (arg1 : Memref sig .tc .vmem S2x64x256 .f32) (harg1 : arg1.IsWhole) (arg2 : Memref sig .tc .vmem S256x896 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S2x64x1x256 .f32) (harg9 : arg9.IsWhole) (arg10 : Memref sig .tc .vmem S2x64x768 .f32) (harg10 : arg10.IsWhole) (arg11 : Memref sig .tc .vmem S2x64x128 .f32) (harg11 : arg11.IsWhole) (arg12 : Memref sig .tc .vmem S2x256x2048 .f32) (harg12 : arg12.IsWhole) (arg13 : Memref sig .tc .vmem S2x1024x512 .f32) (harg13 : arg13.IsWhole) (arg14 : Memref sig .tc .vmem S2x256x2048 .f32) (harg14 : arg14.IsWhole)
  (X_arg10 : BufTy.Contents (Elt F) arg10.view.ty) (X_arg11 : BufTy.Contents (Elt F) arg11.view.ty)
  (f_arg9 : BufTy.Contents (Elt F) arg9.view.ty) (f_arg12 : BufTy.Contents (Elt F) arg12.view.ty) (f_arg13 : BufTy.Contents (Elt F) arg13.view.ty) (f_arg14 : BufTy.Contents (Elt F) arg14.view.ty)
  (k : Fin k0_t1_loop.trips)

/-- What the chunk of the block's first row reads. -/
def ctx0 : Ctx F where
  kc := shapeCast S16x256 (arg10.view.readAt (Elt F) (Rect.unit (s := S2x64x768) (k0_off1 k) S1x16x256.size (k0_off1_inb k)).toLoadRect X_arg10) shapeCasts_S1x16x256_S16x256
  qc := shapeCast S16x256 (arg10.view.readAt (Elt F) (Rect.unit (s := S2x64x768) (k0_off2 k) S1x16x256.size (k0_off2_inb k)).toLoadRect X_arg10) shapeCasts_S1x16x256_S16x256
  vc := shapeCast S16x256 (arg10.view.readAt (Elt F) (Rect.unit (s := S2x64x768) (k0_off3 k) S1x16x256.size (k0_off3_inb k)).toLoadRect X_arg10) shapeCasts_S1x16x256_S16x256
  sc := shapeCast S16x128 (arg11.view.readAt (Elt F) (Rect.unit (s := S2x64x128) (k0_off4 k) S1x16x128.size (k0_off4_inb k)).toLoadRect X_arg11) shapeCasts_S1x16x128_S16x128
  am := shapeCast S256x2048 (arg12.view.readAt (Elt F) (Rect.unit (s := S2x256x2048) ![0, 0, 0] S1x256x2048.size inb_S2x256x2048_S1x256x2048_0_0_0).toLoadRect f_arg12) shapeCasts_S1x256x2048_S256x2048
  bt := shapeCast S1024x512 (arg13.view.readAt (Elt F) (Rect.unit (s := S2x1024x512) ![0, 0, 0] S1x1024x512.size inb_S2x1024x512_S1x1024x512_0_0_0).toLoadRect f_arg13) shapeCasts_S1x1024x512_S1024x512
  bm := shapeCast S256x2048 (arg14.view.readAt (Elt F) (Rect.unit (s := S2x256x2048) ![0, 0, 0] S1x256x2048.size inb_S2x256x2048_S1x256x2048_0_0_0).toLoadRect f_arg14) shapeCasts_S1x256x2048_S256x2048

/-- What the chunk of the block's second row reads. -/
def ctx1 : Ctx F where
  kc := shapeCast S16x256 (arg10.view.readAt (Elt F) (Rect.unit (s := S2x64x768) (k0_off6 k) S1x16x256.size (k0_off6_inb k)).toLoadRect X_arg10) shapeCasts_S1x16x256_S16x256
  qc := shapeCast S16x256 (arg10.view.readAt (Elt F) (Rect.unit (s := S2x64x768) (k0_off7 k) S1x16x256.size (k0_off7_inb k)).toLoadRect X_arg10) shapeCasts_S1x16x256_S16x256
  vc := shapeCast S16x256 (arg10.view.readAt (Elt F) (Rect.unit (s := S2x64x768) (k0_off8 k) S1x16x256.size (k0_off8_inb k)).toLoadRect X_arg10) shapeCasts_S1x16x256_S16x256
  sc := shapeCast S16x128 (arg11.view.readAt (Elt F) (Rect.unit (s := S2x64x128) (k0_off9 k) S1x16x128.size (k0_off9_inb k)).toLoadRect X_arg11) shapeCasts_S1x16x128_S16x128
  am := shapeCast S256x2048 (arg12.view.readAt (Elt F) (Rect.unit (s := S2x256x2048) ![1, 0, 0] S1x256x2048.size inb_S2x256x2048_S1x256x2048_1_0_0).toLoadRect f_arg12) shapeCasts_S1x256x2048_S256x2048
  bt := shapeCast S1024x512 (arg13.view.readAt (Elt F) (Rect.unit (s := S2x1024x512) ![1, 0, 0] S1x1024x512.size inb_S2x1024x512_S1x1024x512_1_0_0).toLoadRect f_arg13) shapeCasts_S1x1024x512_S1024x512
  bm := shapeCast S256x2048 (arg14.view.readAt (Elt F) (Rect.unit (s := S2x256x2048) ![1, 0, 0] S1x256x2048.size inb_S2x256x2048_S1x256x2048_1_0_0).toLoadRect f_arg14) shapeCasts_S1x256x2048_S256x2048

/-- The pieces of a trip, last first: the answers to the block of the output, then for each of the three matrices the
    two rows' momentum and value. -/
theorem trip_pieces :
    tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_pay956 k0_pay957 k0_pay958 k0_pay959 k0_pay960 k0_pay961 k0_pay962 k0_pay963 k0_pay964 k0_pay965 k0_pay966 k0_pay967 k0_pay968 k0_pay969 k0_pay970 k0_pay971 k0_pay972 k0_pay973 k0_pay974 k0_pay975 k0_pay976 k0_pay977 k0_pay978 k0_pay979 k0_pay980 k0_pay981 k0_pay982 k0_pay983 k0_pay984 k0_pay985 k0_pay986 k0_pay987 k0_pay988 k0_pay989 X_arg10 X_arg11 k f_arg9 f_arg12 f_arg13 f_arg14
    = ([⟨Rect.unit (s := S2x64x1x256) (k0_off10 k) S1x16x1x256.size (k0_off10_inb k), shapeCast S1x16x1x256 (shapeCast S16x1x256 (ansRows (ctx1 arg10 arg11 arg12 arg13 arg14 X_arg10 X_arg11 f_arg12 f_arg13 f_arg14 k)) shapeCasts_S16x256_S16x1x256) shapeCasts_S16x1x256_S1x16x1x256⟩,
        ⟨Rect.unit (s := S2x64x1x256) (k0_off5 k) S1x16x1x256.size (k0_off5_inb k), shapeCast S1x16x1x256 (shapeCast S16x1x256 (ansRows (ctx0 arg10 arg11 arg12 arg13 arg14 X_arg10 X_arg11 f_arg12 f_arg13 f_arg14 k)) shapeCasts_S16x256_S16x1x256) shapeCasts_S16x1x256_S1x16x1x256⟩],
       [⟨Rect.unit (s := S2x256x2048) ![1, 0, 1024] S1x256x1024.size inb_S2x256x2048_S1x256x1024_1_0_1024, shapeCast S1x256x1024 (newMom (ctx1 arg10 arg11 arg12 arg13 arg14 X_arg10 X_arg11 f_arg12 f_arg13 f_arg14 k) 512 rfl (ctx1 arg10 arg11 arg12 arg13 arg14 X_arg10 X_arg11 f_arg12 f_arg13 f_arg14 k).kc (dpres (ctx1 arg10 arg11 arg12 arg13 arg14 X_arg10 X_arg11 f_arg12 f_arg13 f_arg14 k)) (shapeCast S256x1024 (arg12.view.readAt (Elt F) (Rect.unit (s := S2x256x2048) ![1, 0, 1024] S1x256x1024.size inb_S2x256x2048_S1x256x1024_1_0_1024).toLoadRect f_arg12) shapeCasts_S1x256x1024_S256x1024)) shapeCasts_S256x1024_S1x256x1024⟩,
        ⟨Rect.unit (s := S2x256x2048) ![1, 0, 0] S1x256x1024.size inb_S2x256x2048_S1x256x1024_1_0_0, shapeCast S1x256x1024 (newM (ctx1 arg10 arg11 arg12 arg13 arg14 X_arg10 X_arg11 f_arg12 f_arg13 f_arg14 k) 512 rfl (ctx1 arg10 arg11 arg12 arg13 arg14 X_arg10 X_arg11 f_arg12 f_arg13 f_arg14 k).kc (dpres (ctx1 arg10 arg11 arg12 arg13 arg14 X_arg10 X_arg11 f_arg12 f_arg13 f_arg14 k)) (shapeCast S256x1024 (arg12.view.readAt (Elt F) (Rect.unit (s := S2x256x2048) ![1, 0, 0] S1x256x1024.size inb_S2x256x2048_S1x256x1024_1_0_0).toLoadRect f_arg12) shapeCasts_S1x256x1024_S256x1024) (shapeCast S256x1024 (arg12.view.readAt (Elt F) (Rect.unit (s := S2x256x2048) ![1, 0, 1024] S1x256x1024.size inb_S2x256x2048_S1x256x1024_1_0_1024).toLoadRect f_arg12) shapeCasts_S1x256x1024_S256x1024)) shapeCasts_S256x1024_S1x256x1024⟩,
        ⟨Rect.unit (s := S2x256x2048) ![0, 0, 1024] S1x256x1024.size inb_S2x256x2048_S1x256x1024_0_0_1024, shapeCast S1x256x1024 (newMom (ctx0 arg10 arg11 arg12 arg13 arg14 X_arg10 X_arg11 f_arg12 f_arg13 f_arg14 k) 512 rfl (ctx0 arg10 arg11 arg12 arg13 arg14 X_arg10 X_arg11 f_arg12 f_arg13 f_arg14 k).kc (dpres (ctx0 arg10 arg11 arg12 arg13 arg14 X_arg10 X_arg11 f_arg12 f_arg13 f_arg14 k)) (shapeCast S256x1024 (arg12.view.readAt (Elt F) (Rect.unit (s := S2x256x2048) ![0, 0, 1024] S1x256x1024.size inb_S2x256x2048_S1x256x1024_0_0_1024).toLoadRect f_arg12) shapeCasts_S1x256x1024_S256x1024)) shapeCasts_S256x1024_S1x256x1024⟩,
        ⟨Rect.unit (s := S2x256x2048) ![0, 0, 0] S1x256x1024.size inb_S2x256x2048_S1x256x1024_0_0_0, shapeCast S1x256x1024 (newM (ctx0 arg10 arg11 arg12 arg13 arg14 X_arg10 X_arg11 f_arg12 f_arg13 f_arg14 k) 512 rfl (ctx0 arg10 arg11 arg12 arg13 arg14 X_arg10 X_arg11 f_arg12 f_arg13 f_arg14 k).kc (dpres (ctx0 arg10 arg11 arg12 arg13 arg14 X_arg10 X_arg11 f_arg12 f_arg13 f_arg14 k)) (shapeCast S256x1024 (arg12.view.readAt (Elt F) (Rect.unit (s := S2x256x2048) ![0, 0, 0] S1x256x1024.size inb_S2x256x2048_S1x256x1024_0_0_0).toLoadRect f_arg12) shapeCasts_S1x256x1024_S256x1024) (shapeCast S256x1024 (arg12.view.readAt (Elt F) (Rect.unit (s := S2x256x2048) ![0, 0, 1024] S1x256x1024.size inb_S2x256x2048_S1x256x1024_0_0_1024).toLoadRect f_arg12) shapeCasts_S1x256x1024_S256x1024)) shapeCasts_S256x1024_S1x256x1024⟩],
       [⟨Rect.unit (s := S2x1024x512) ![1, 0, 256] S1x1024x256.size inb_S2x1024x512_S1x1024x256_1_0_256, shapeCast S1x1024x256 (newMom (ctx1 arg10 arg11 arg12 arg13 arg14 X_arg10 X_arg11 f_arg12 f_arg13 f_arg14 k) 2048 rfl (hs (ctx1 arg10 arg11 arg12 arg13 arg14 X_arg10 X_arg11 f_arg12 f_arg13 f_arg14 k)) (dps (ctx1 arg10 arg11 arg12 arg13 arg14 X_arg10 X_arg11 f_arg12 f_arg13 f_arg14 k)) (shapeCast S1024x256 (arg13.view.readAt (Elt F) (Rect.unit (s := S2x1024x512) ![1, 0, 256] S1x1024x256.size inb_S2x1024x512_S1x1024x256_1_0_256).toLoadRect f_arg13) shapeCasts_S1x1024x256_S1024x256)) shapeCasts_S1024x256_S1x1024x256⟩,
        ⟨Rect.unit (s := S2x1024x512) ![1, 0, 0] S1x1024x256.size inb_S2x1024x512_S1x1024x256_1_0_0, shapeCast S1x1024x256 (newM (ctx1 arg10 arg11 arg12 arg13 arg14 X_arg10 X_arg11 f_arg12 f_arg13 f_arg14 k) 2048 rfl (hs (ctx1 arg10 arg11 arg12 arg13 arg14 X_arg10 X_arg11 f_arg12 f_arg13 f_arg14 k)) (dps (ctx1 arg10 arg11 arg12 arg13 arg14 X_arg10 X_arg11 f_arg12 f_arg13 f_arg14 k)) (shapeCast S1024x256 (arg13.view.readAt (Elt F) (Rect.unit (s := S2x1024x512) ![1, 0, 0] S1x1024x256.size inb_S2x1024x512_S1x1024x256_1_0_0).toLoadRect f_arg13) shapeCasts_S1x1024x256_S1024x256) (shapeCast S1024x256 (arg13.view.readAt (Elt F) (Rect.unit (s := S2x1024x512) ![1, 0, 256] S1x1024x256.size inb_S2x1024x512_S1x1024x256_1_0_256).toLoadRect f_arg13) shapeCasts_S1x1024x256_S1024x256)) shapeCasts_S1024x256_S1x1024x256⟩,
        ⟨Rect.unit (s := S2x1024x512) ![0, 0, 256] S1x1024x256.size inb_S2x1024x512_S1x1024x256_0_0_256, shapeCast S1x1024x256 (newMom (ctx0 arg10 arg11 arg12 arg13 arg14 X_arg10 X_arg11 f_arg12 f_arg13 f_arg14 k) 2048 rfl (hs (ctx0 arg10 arg11 arg12 arg13 arg14 X_arg10 X_arg11 f_arg12 f_arg13 f_arg14 k)) (dps (ctx0 arg10 arg11 arg12 arg13 arg14 X_arg10 X_arg11 f_arg12 f_arg13 f_arg14 k)) (shapeCast S1024x256 (arg13.view.readAt (Elt F) (Rect.unit (s := S2x1024x512) ![0, 0, 256] S1x1024x256.size inb_S2x1024x512_S1x1024x256_0_0_256).toLoadRect f_arg13) shapeCasts_S1x1024x256_S1024x256)) shapeCasts_S1024x256_S1x1024x256⟩,
        ⟨Rect.unit (s := S2x1024x512) ![0, 0, 0] S1x1024x256.size inb_S2x1024x512_S1x1024x256_0_0_0, shapeCast S1x1024x256 (newM (ctx0 arg10 arg11 arg12 arg13 arg14 X_arg10 X_arg11 f_arg12 f_arg13 f_arg14 k) 2048 rfl (hs (ctx0 arg10 arg11 arg12 arg13 arg14 X_arg10 X_arg11 f_arg12 f_arg13 f_arg14 k)) (dps (ctx0 arg10 arg11 arg12 arg13 arg14 X_arg10 X_arg11 f_arg12 f_arg13 f_arg14 k)) (shapeCast S1024x256 (arg13.view.readAt (Elt F) (Rect.unit (s := S2x1024x512) ![0, 0, 0] S1x1024x256.size inb_S2x1024x512_S1x1024x256_0_0_0).toLoadRect f_arg13) shapeCasts_S1x1024x256_S1024x256) (shapeCast S1024x256 (arg13.view.readAt (Elt F) (Rect.unit (s := S2x1024x512) ![0, 0, 256] S1x1024x256.size inb_S2x1024x512_S1x1024x256_0_0_256).toLoadRect f_arg13) shapeCasts_S1x1024x256_S1024x256)) shapeCasts_S1024x256_S1x1024x256⟩],
       [⟨Rect.unit (s := S2x256x2048) ![1, 0, 1024] S1x256x1024.size inb_S2x256x2048_S1x256x1024_1_0_1024, shapeCast S1x256x1024 (newMom (ctx1 arg10 arg11 arg12 arg13 arg14 X_arg10 X_arg11 f_arg12 f_arg13 f_arg14 k) 512 rfl (dps (ctx1 arg10 arg11 arg12 arg13 arg14 X_arg10 X_arg11 f_arg12 f_arg13 f_arg14 k)) (hs (ctx1 arg10 arg11 arg12 arg13 arg14 X_arg10 X_arg11 f_arg12 f_arg13 f_arg14 k)) (shapeCast S256x1024 (arg14.view.readAt (Elt F) (Rect.unit (s := S2x256x2048) ![1, 0, 1024] S1x256x1024.size inb_S2x256x2048_S1x256x1024_1_0_1024).toLoadRect f_arg14) shapeCasts_S1x256x1024_S256x1024)) shapeCasts_S256x1024_S1x256x1024⟩,
        ⟨Rect.unit (s := S2x256x2048) ![1, 0, 0] S1x256x1024.size inb_S2x256x2048_S1x256x1024_1_0_0, shapeCast S1x256x1024 (newM (ctx1 arg10 arg11 arg12 arg13 arg14 X_arg10 X_arg11 f_arg12 f_arg13 f_arg14 k) 512 rfl (dps (ctx1 arg10 arg11 arg12 arg13 arg14 X_arg10 X_arg11 f_arg12 f_arg13 f_arg14 k)) (hs (ctx1 arg10 arg11 arg12 arg13 arg14 X_arg10 X_arg11 f_arg12 f_arg13 f_arg14 k)) (shapeCast S256x1024 (arg14.view.readAt (Elt F) (Rect.unit (s := S2x256x2048) ![1, 0, 0] S1x256x1024.size inb_S2x256x2048_S1x256x1024_1_0_0).toLoadRect f_arg14) shapeCasts_S1x256x1024_S256x1024) (shapeCast S256x1024 (arg14.view.readAt (Elt F) (Rect.unit (s := S2x256x2048) ![1, 0, 1024] S1x256x1024.size inb_S2x256x2048_S1x256x1024_1_0_1024).toLoadRect f_arg14) shapeCasts_S1x256x1024_S256x1024)) shapeCasts_S256x1024_S1x256x1024⟩,
        ⟨Rect.unit (s := S2x256x2048) ![0, 0, 1024] S1x256x1024.size inb_S2x256x2048_S1x256x1024_0_0_1024, shapeCast S1x256x1024 (newMom (ctx0 arg10 arg11 arg12 arg13 arg14 X_arg10 X_arg11 f_arg12 f_arg13 f_arg14 k) 512 rfl (dps (ctx0 arg10 arg11 arg12 arg13 arg14 X_arg10 X_arg11 f_arg12 f_arg13 f_arg14 k)) (hs (ctx0 arg10 arg11 arg12 arg13 arg14 X_arg10 X_arg11 f_arg12 f_arg13 f_arg14 k)) (shapeCast S256x1024 (arg14.view.readAt (Elt F) (Rect.unit (s := S2x256x2048) ![0, 0, 1024] S1x256x1024.size inb_S2x256x2048_S1x256x1024_0_0_1024).toLoadRect f_arg14) shapeCasts_S1x256x1024_S256x1024)) shapeCasts_S256x1024_S1x256x1024⟩,
        ⟨Rect.unit (s := S2x256x2048) ![0, 0, 0] S1x256x1024.size inb_S2x256x2048_S1x256x1024_0_0_0, shapeCast S1x256x1024 (newM (ctx0 arg10 arg11 arg12 arg13 arg14 X_arg10 X_arg11 f_arg12 f_arg13 f_arg14 k) 512 rfl (dps (ctx0 arg10 arg11 arg12 arg13 arg14 X_arg10 X_arg11 f_arg12 f_arg13 f_arg14 k)) (hs (ctx0 arg10 arg11 arg12 arg13 arg14 X_arg10 X_arg11 f_arg12 f_arg13 f_arg14 k)) (shapeCast S256x1024 (arg14.view.readAt (Elt F) (Rect.unit (s := S2x256x2048) ![0, 0, 0] S1x256x1024.size inb_S2x256x2048_S1x256x1024_0_0_0).toLoadRect f_arg14) shapeCasts_S1x256x1024_S256x1024) (shapeCast S256x1024 (arg14.view.readAt (Elt F) (Rect.unit (s := S2x256x2048) ![0, 0, 1024] S1x256x1024.size inb_S2x256x2048_S1x256x1024_0_0_1024).toLoadRect f_arg14) shapeCasts_S1x256x1024_S256x1024)) shapeCasts_S256x1024_S1x256x1024⟩]) := by
  unfold tripL_k0_t1 trip_k0_t1
  sl_kernel_rfl

end Cert.Proof.Chunk

end
-- ==== Proof.ChunkValue.lean ====
/-
  What a chunk computes over the reals: sixteen steps of the memory from the state at the chunk's start, by the closed
  form in which that state is held fixed and every step taken since adds a weighted row.
-/
module

public import proofs.«01_k».proof.Proof.Rep
public import proofs.«01_k».proof.Proof.Memory

@[expose] public section

noncomputable section

namespace Cert.Proof.Chunk

open Idealize.ShloMosaic hiding ix2
open Idealize.ShloMosaic.ValueIdx Finset Cert.Proof.Memory

variable {m n k b : ℕ}

/-! ## Weighted sums of rows -/

/-- The weighted sum of rows. -/
theorem rep_wsum {w : Mat Ideal 1 n} {W : ℕ → ℝ} (hw : Rep w fun _ a => W a) {rows : ℕ → Mat Ideal 1 b} {R : ℕ → Fin b → ℝ} :
    (m : ℕ) → (h : m < n) → (∀ j ≤ m, Rep (rows j) fun _ => R j) →
    Rep (wsum w rows m h) fun _ d => ∑ j ∈ range (m + 1), W j * R j d
  | 0, h, hr => ((rep_mulf (rep_bc (rep_sl hw 0 0 _)) (hr 0 le_rfl))).congr fun _ d => by simp
  | m + 1, h, hr => (rep_addf (rep_wsum hw m _ fun j hj => hr j (by omega))
      (rep_mulf (rep_bc (rep_sl hw 0 (m + 1) _)) (hr (m + 1) le_rfl))).congr fun _ d => by
        rw [sum_range_succ _ (m + 1)]; simp

/-- The weighted sum with coefficients times products. -/
theorem rep_mixg {beta g : Mat Ideal 1 16} {B G : ℕ → ℝ} (hb : Rep beta fun _ a => B a) (hg : Rep g fun _ a => G a)
    {r : ℕ → Mat Ideal 1 n} {R : ℕ → Fin n → ℝ} {x : Mat Ideal 1 n} {X : Fin n → ℝ} (hx : Rep x fun _ => X) :
    (s : ℕ) → (h : s ≤ 16) → (∀ j < s, Rep (r j) fun _ => R j) →
    Rep (mixg beta g r x s h) fun _ d => X d + ∑ j ∈ range s, B j * G j * R j d
  | 0, _, _ => hx.congr fun _ d => by simp
  | s + 1, h, hr => rep_addf hx (rep_wsum (W := fun j => B j * G j) (rep_mulf hb hg) s h fun j hj => hr j (by omega))

/-- The weighted sum with coefficients times a row of products. -/
theorem rep_mix {beta : Mat Ideal 1 16} {B : ℕ → ℝ} (hb : Rep beta fun _ a => B a) {z : Mat Ideal 1 k} {Z : Fin k → ℝ}
    (hz : Rep z fun _ => Z) {y : ℕ → Mat Ideal 1 k} {Y : ℕ → Fin k → ℝ} {r : ℕ → Mat Ideal 1 n} {R : ℕ → Fin n → ℝ}
    {x : Mat Ideal 1 n} {X : Fin n → ℝ} (hx : Rep x fun _ => X) :
    (s : ℕ) → (h : s < 16) → (∀ j < s, Rep (y j) fun _ => Y j) → (∀ j < s, Rep (r j) fun _ => R j) →
    Rep (mix beta z y r x s h) fun _ d => X d + ∑ j ∈ range s, B j * (∑ i, Z i * Y j i) * R j d
  | 0, _, _, _ => hx.congr fun _ d => by simp
  | 1, h, hy, hr => (rep_addf hx (rep_mulf (rep_bc (rep_mulf (rep_mulT hz (hy 0 one_pos)) (rep_sl hb 0 0 _))) (hr 0 one_pos))).congr
      fun _ d => by simp [mul_comm]
  | s + 2, h, hy, hr => (rep_addf hx (rep_wsum (n := s + 2) (W := fun j => (∑ i, Z i * Y j i) * B j)
      ((rep_mulf (rep_mulT hz (rep_stack (by omega) (f := fun j => Y j) fun j => hy j j.isLt)) (rep_sl hb 0 0 _)).congr
        fun _ j => by simp) (s + 1) (by omega) fun j hj => hr j (by omega))).congr
      fun _ d => by congr 1; exact sum_congr rfl fun j _ => by ring

/-- Two scaled rows, added. -/
theorem rep_two {l r : Mat Ideal 1 1} {L R : ℝ} (hl : Rep l fun _ _ => L) (hr : Rep r fun _ _ => R) {x y : Mat Ideal m n}
    {X Y : Fin m → Fin n → ℝ} (hx : Rep x X) (hy : Rep y Y) : Rep (two l r x y) fun i j => L * X i j + R * Y i j :=
  rep_addf (rep_mulf (rep_bc hl) hx) (rep_mulf (rep_bc hr) hy)

/-! ## The unit rows and columns -/

/-- The indicator of an equality, as a number. -/
theorem ind_coe (a s : ℕ) (ha : a < 2 ^ 32) (hs : s < 2 ^ 32) :
    (FloatOps.sitofp (F := Ideal) .f32 ((BitVec.ofBool (BitVec.ofNat 32 a == BitVec.ofNat 32 s)).setWidth 32) : Ideal .f32)
      = (((if a = s then 1 else 0 : ℝ)) : EReal) := by
  by_cases h : a = s
  · subst h
    rw [if_pos rfl, beq_self_eq_true]
    change (((((BitVec.ofBool true).setWidth 32 : BitVec 32).toInt : ℝ) : ℝ) : EReal) = _
    rw [show ((BitVec.ofBool true).setWidth 32 : BitVec 32).toInt = 1 by decide, Int.cast_one]
  · rw [if_neg h]
    have : (BitVec.ofNat 32 a == BitVec.ofNat 32 s) = false := by
      rw [beq_eq_false_iff_ne]; intro e
      have := congrArg BitVec.toNat e
      rw [BitVec.toNat_ofNat, BitVec.toNat_ofNat, Nat.mod_eq_of_lt ha, Nat.mod_eq_of_lt hs] at this
      exact h this
    rw [this]
    change (((((BitVec.ofBool false).setWidth 32 : BitVec 32).toInt : ℝ) : ℝ) : EReal) = _
    norm_num

/-- The unit row. -/
theorem rep_eyeR (s : ℕ) (hs : s < 16) : Rep (eyeR s : Mat Ideal 1 16) fun _ a => if a.val = s then 1 else 0 := fun z a => by
  refine Eq.trans ?_ (ind_coe a.val s (by omega) (by omega))
  unfold eyeR
  change FloatOps.sitofp _ _ = _
  congr 1
  change BitVec.setWidth 32 (BitVec.ofBool (BitVec.ofNat 32 (0 * 16 + a.val) == BitVec.ofNat 32 s)) = _
  rw [Nat.zero_mul, Nat.zero_add]

/-- The unit column. -/
theorem rep_eyeC (s : ℕ) (hs : s < 16) : Rep (eyeC s : Mat Ideal 16 1) fun a _ => if a.val = s then 1 else 0 := fun a z => by
  refine Eq.trans ?_ (ind_coe a.val s (by omega) (by omega))
  unfold eyeC
  change FloatOps.sitofp _ _ = _
  congr 1
  change BitVec.setWidth 32 (BitVec.ofBool (BitVec.ofNat 32 (0 * 16 + a.val) == BitVec.ofNat 32 s)) = _
  rw [Nat.zero_mul, Nat.zero_add]

/-! ## The steps -/

/-- Two arrays side by side. -/
def halves {m n : ℕ} (p : ℕ) (hp : p = n + n) (f g : Fin m → Fin n → ℝ) : Fin m → Fin p → ℝ :=
  fun i j => if h : j.val < n then f i ⟨j, h⟩ else g i ⟨j - n, by omega⟩

/-- A chunk reads the inputs `X` and the state `S`. -/
structure Fits (C : Ctx Ideal) (X : ℕ → Inp (Fin 256)) (S : St (Fin 256) (Fin 1024)) : Prop where
  kc : Rep C.kc fun a i => (X a).k i
  qc : Rep C.qc fun a i => (X a).q i
  vc : Rep C.vc fun a i => (X a).v i
  al : ∀ a : Fin 16, C.sc (ix2 a 0) = ((1 - (X a).keep : ℝ) : EReal)
  th : ∀ a : Fin 16, C.sc (ix2 a 1) = (((X a).c / 2 : ℝ) : EReal)
  et : ∀ a : Fin 16, C.sc (ix2 a 2) = (((X a).e : ℝ) : EReal)
  am : Rep C.am (halves 2048 rfl S.A S.MA)
  bt : Rep C.bt (halves 512 rfl S.B S.MB)
  bm : Rep C.bm (halves 2048 rfl (fun j d => S.B d j) fun j d => S.MB d j)

/-- The weights after `s` steps. -/
structure WRep (X : ℕ → Inp (Fin 256)) (s : ℕ) (o : Out Ideal) : Prop where
  lam : Rep o.lam fun _ _ => rlam X s
  sg : Rep o.sg fun _ _ => rsgc X s
  en : Rep o.en fun _ _ => ren X s
  br : Rep o.br fun _ a => rbe X s a
  mr : Rep o.mr fun _ a => rmm X s a
  bcl : Rep o.bcl fun a _ => rbe X s a
  mcl : Rep o.mcl fun a _ => rmm X s a

/-- The rows of step `j`. -/
structure RRep (X : ℕ → Inp (Fin 256)) (S : St (Fin 256) (Fin 1024)) (j : ℕ) (o : Out Ideal) : Prop where
  h : Rep o.h fun _ => rh (1 / 128) X S j
  dp : Rep o.dp fun _ => rdp (1 / 128) X S j
  dpre : Rep o.dpre fun _ => rdpre (1 / 128) X S j
  h2 : Rep o.h2 fun _ => rh2 (1 / 128) X S j

/-- The coefficients before the first step. -/
theorem rep_init (X : ℕ → Inp (Fin 256)) : WRep X 0 (init : Out Ideal) where
  lam := rep_broadcast lit_one
  sg := rep_broadcast lit_zero
  en := rep_broadcast lit_one
  br := rep_broadcast lit_zero
  mr := rep_broadcast lit_zero
  bcl := rep_broadcast lit_zero
  mcl := rep_broadcast lit_zero

section Step

variable {C : Ctx Ideal} {X : ℕ → Inp (Fin 256)} {S : St (Fin 256) (Fin 1024)} (H : Fits C X S)
include H

/-- The keys atop the queries. -/
theorem rep_kq : Rep (atop 32 rfl C.kc C.qc) fun a i => if a.val < 16 then (X a).k i else (X (a - 16)).q i :=
  (rep_atop rfl H.kc H.qc).congr fun a i => by split <;> rfl

/-- The keys through the first matrix. -/
theorem rep_u0 : Rep (u0 C) fun a d => vm (X a).k S.A d :=
  (rep_sl (rep_mul (rep_kq H) H.am) 0 0 _).congr fun a d => by simp [halves, vm]

/-- The keys through its momentum. -/
theorem rep_um : Rep (um C) fun a d => vm (X a).k S.MA d :=
  (rep_sl (rep_mul (rep_kq H) H.am) 0 1024 _).congr fun a d => by simp [halves, vm]

/-- The queries through the first matrix. -/
theorem rep_q0 : Rep (q0 C) fun a d => vm (X a).q S.A d :=
  (rep_sl (rep_mul (rep_kq H) H.am) 16 0 _).congr fun a d => by simp [halves, vm]

/-- The queries through its momentum. -/
theorem rep_qm : Rep (qm C) fun a d => vm (X a).q S.MA d :=
  (rep_sl (rep_mul (rep_kq H) H.am) 16 1024 _).congr fun a d => by simp [halves, vm]

/-- The products of the keys. -/
theorem rep_kk : Rep (kk C) fun a j => ∑ i, (X a).k i * (X j).k i :=
  (rep_sl (rep_mulT (rep_kq H) H.kc) 0 0 _).congr fun a d => by simp

/-- The products of queries and keys. -/
theorem rep_qk : Rep (qk C) fun a j => ∑ i, (X a).q i * (X j).k i :=
  (rep_sl (rep_mulT (rep_kq H) H.kc) 16 0 _).congr fun a d => by simp

variable (s : ℕ) (hs : s < 16)

/-- The momentum gate. -/
theorem rep_e : Rep (e_ C s hs) fun _ _ => (X s).e := fun i j => by
  obtain rfl := Fin.fin_one_eq_zero i; obtain rfl := Fin.fin_one_eq_zero j
  exact (sl_apply C.sc s 2 _ 0 0).trans (H.et ⟨s, hs⟩)

/-- What the decay leaves. -/
theorem rep_keep : Rep (keep C s hs) fun _ _ => (X s).keep := by
  refine (rep_subf (rep_broadcast lit_one) (g := fun _ _ => 1 - (X s).keep) fun i j => ?_).congr fun _ _ => by ring
  obtain rfl := Fin.fin_one_eq_zero i; obtain rfl := Fin.fin_one_eq_zero j
  exact (sl_apply C.sc s 0 _ 0 0).trans (H.al ⟨s, hs⟩)

/-- Twice the step size. -/
theorem rep_cth : Rep (cth C s hs) fun _ _ => (X s).c := by
  refine (rep_mulf (rep_broadcast lit_two) (g := fun _ _ => (X s).c / 2) fun i j => ?_).congr fun _ _ => by ring
  obtain rfl := Fin.fin_one_eq_zero i; obtain rfl := Fin.fin_one_eq_zero j
  exact (sl_apply C.sc s 1 _ 0 0).trans (H.th ⟨s, hs⟩)

variable {p : Out Ideal} {P : ℕ → Out Ideal} (hp : WRep X s p) (hP : ∀ j < s, RRep X S j (P j))
include hp

/-- The momentum's own scale. -/
theorem rep_en : Rep (en_ C s hs p) fun _ _ => ren X (s + 1) := rep_mulf (rep_e H s hs) hp.en
/-- The first matrix's weight. -/
theorem rep_lam : Rep (lam_ C s hs p) fun _ _ => rlam X (s + 1) := rep_mulf (rep_keep H s hs) hp.lam
/-- The first momentum's weight. -/
theorem rep_sg : Rep (sg_ C s hs p) fun _ _ => rsgc X (s + 1) :=
  rep_addf (rep_mulf (rep_keep H s hs) hp.sg) (rep_en H s hs hp)
/-- The momentum's coefficients, as a row. -/
theorem rep_mr : Rep (mr_ C s hs p) fun _ a => rmm X (s + 1) a :=
  rep_subf (rep_mulf (rep_bc (rep_e H s hs)) hp.mr) (rep_mulf (rep_bc (rep_cth H s hs)) (rep_eyeR s hs))
/-- The momentum's coefficients, as a column. -/
theorem rep_mc : Rep (mc_ C s hs p) fun a _ => rmm X (s + 1) a :=
  rep_subf (rep_mulf (rep_bc (rep_e H s hs)) hp.mcl) (rep_mulf (rep_bc (rep_cth H s hs)) (rep_eyeC s hs))
/-- The matrix's coefficients, as a row. -/
theorem rep_br : Rep (br_ C s hs p) fun _ a => rbe X (s + 1) a :=
  rep_addf (rep_mulf (rep_bc (rep_keep H s hs)) hp.br) (rep_mr H s hs hp)
/-- The matrix's coefficients, as a column. -/
theorem rep_bcl : Rep (bc_ C s hs p) fun a _ => rbe X (s + 1) a :=
  rep_addf (rep_mulf (rep_bc (rep_keep H s hs)) hp.bcl) (rep_mc H s hs hp)

include hP

/-- The key through the matrix of the step. -/
theorem rep_u : Rep (u_ C s hs p P) fun _ => vm (X s).k (traj (1 / 128) X S s).A := by
  refine (rep_mixg (B := rbe X s) (G := fun j => ∑ i, (X s).k i * (X j).k i) hp.br
    ((rep_sl (rep_kk H) s 0 _).congr fun _ a => by simp) (R := fun j => rdpre (1 / 128) X S j)
    (X := fun d => rlam X s * vm (X s).k S.A d + rsgc X s * vm (X s).k S.MA d)
    ((rep_two hp.lam hp.sg (rep_sl (rep_u0 H) s 0 _) (rep_sl (rep_um H) s 0 _)).congr fun _ d => by simp)
    s _ fun j hj => (hP j hj).dpre).congr fun _ d => ?_
  rw [run_u]

/-- The hidden row of the step. -/
theorem rep_h : Rep (h_ C s hs p P) fun _ => rh (1 / 128) X S s :=
  rep_mulf (rep_u H s hs hp hP) (rep_logistic (rep_u H s hs hp hP))

/-- The prediction of the step. -/
theorem rep_pred : Rep (pred C s hs p P) fun _ => vm (rh (1 / 128) X S s) (traj (1 / 128) X S s).B := by
  refine (rep_mix (B := rbe X s) hp.br (rep_h H s hs hp hP) (Y := fun j => rh (1 / 128) X S j)
    (R := fun j => rdp (1 / 128) X S j)
    (X := fun d => rlam X s * vm (rh (1 / 128) X S s) S.B d + rsgc X s * vm (rh (1 / 128) X S s) S.MB d)
    ((rep_two hp.lam hp.sg (rep_sl (rep_mul (rep_h H s hs hp hP) H.bt) 0 0 _)
      (rep_sl (rep_mul (rep_h H s hs hp hP) H.bt) 0 256 _)).congr fun _ d => by simp [halves, vm])
    s _ (fun j hj => (hP j hj).h) fun j hj => (hP j hj).dp).congr fun _ d => ?_
  rw [run_p]

/-- The gradient at the prediction. -/
theorem rep_dp : Rep (dp_ C s hs p P) fun _ => rdp (1 / 128) X S s :=
  rep_mulf (rep_broadcast lit_g) (rep_subf (rep_pred H s hs hp hP)
    ((rep_sl H.vc s 0 _).congr (g := fun _ => (X s).v) fun _ d => by simp))

/-- The gradient at the hidden row. -/
theorem rep_dh : Rep (dh C s hs p P) fun _ d => ∑ j, rdp (1 / 128) X S s j * (traj (1 / 128) X S s).B d j := by
  refine (rep_mix (B := rbe X s) hp.br (rep_dp H s hs hp hP) (Y := fun j => rdp (1 / 128) X S j)
    (R := fun j => rh (1 / 128) X S j)
    (X := fun d => rlam X s * ∑ j, rdp (1 / 128) X S s j * S.B d j + rsgc X s * ∑ j, rdp (1 / 128) X S s j * S.MB d j)
    ((rep_two hp.lam hp.sg (rep_sl (rep_mul (rep_dp H s hs hp hP) H.bm) 0 0 _)
      (rep_sl (rep_mul (rep_dp H s hs hp hP) H.bm) 0 1024 _)).congr fun _ d => by simp [halves])
    s _ (fun j hj => (hP j hj).dp) fun j hj => (hP j hj).h).congr fun _ d => ?_
  rw [run_b]

/-- The gradient before the activation. -/
theorem rep_dpre : Rep (dpre_ C s hs p P) fun _ => rdpre (1 / 128) X S s :=
  rep_mulf (rep_dh H s hs hp hP) (rep_mulf (rep_logistic (rep_u H s hs hp hP)) (rep_addf (rep_broadcast lit_one)
    (rep_mulf (rep_u H s hs hp hP) (rep_subf (rep_broadcast lit_one) (rep_logistic (rep_u H s hs hp hP))))))

/-- The query through the matrix after the step. -/
theorem rep_u2 : Rep (u2 C s hs p P) fun _ => vm (X s).q (traj (1 / 128) X S (s + 1)).A := by
  refine (rep_mixg (B := rbe X (s + 1)) (G := fun j => ∑ i, (X s).q i * (X j).k i) (rep_br H s hs hp)
    ((rep_sl (rep_qk H) s 0 _).congr fun _ a => by simp) (R := fun j => rdpre (1 / 128) X S j)
    (X := fun d => rlam X (s + 1) * vm (X s).q S.A d + rsgc X (s + 1) * vm (X s).q S.MA d)
    ((rep_two (rep_lam H s hs hp) (rep_sg H s hs hp) (rep_sl (rep_q0 H) s 0 _) (rep_sl (rep_qm H) s 0 _)).congr
      fun _ d => by simp)
    (s + 1) _ fun j hj => ?_).congr fun _ d => ?_
  · by_cases e : j = s
    · rw [if_pos e, e]; exact rep_dpre H s hs hp hP
    · rw [if_neg e]; exact (hP j (by omega)).dpre
  · rw [run_u]

/-- A step computes its rows. -/
theorem rep_step_rows : RRep X S s (step C s hs p P) where
  h := rep_h H s hs hp hP
  dp := rep_dp H s hs hp hP
  dpre := rep_dpre H s hs hp hP
  h2 := rep_mulf (rep_u2 H s hs hp hP) (rep_logistic (rep_u2 H s hs hp hP))

omit hP in
/-- A step computes the weights after it. -/
theorem rep_step_weights : WRep X (s + 1) (step C s hs p P) where
  lam := rep_lam H s hs hp
  sg := rep_sg H s hs hp
  en := rep_en H s hs hp
  br := rep_br H s hs hp
  mr := rep_mr H s hs hp
  bcl := rep_bcl H s hs hp
  mcl := rep_mc H s hs hp

end Step

section Chunk

variable {C : Ctx Ideal} {X : ℕ → Inp (Fin 256)} {S : St (Fin 256) (Fin 1024)} (H : Fits C X S)
include H

/-- The steps compute their rows and weights. -/
theorem rep_hist : (n : ℕ) → (h : n ≤ 16) → ∀ j < n, RRep X S j (hist C n h j) ∧ WRep X (j + 1) (hist C n h j)
  | 0, _, j, hj => absurd hj (Nat.not_lt_zero j)
  | n + 1, h, j, hj => by
    have ih := rep_hist n (Nat.le_of_succ_le h)
    have hw : WRep X n (last (hist C n (Nat.le_of_succ_le h)) n) := by
      cases n with
      | zero => exact rep_init X
      | succ n => exact (ih n (Nat.lt_succ_self n)).2
    rw [hist]
    beta_reduce
    by_cases e : j = n
    · subst e
      rw [if_pos rfl]
      exact ⟨rep_step_rows H j h hw fun i hi => (ih i hi).1, rep_step_weights H j h hw⟩
    · rw [if_neg e]
      exact ih j (by omega)

/-- What every step of the chunk leaves. -/
theorem rep_P (j : ℕ) (hj : j < 16) : RRep X S j (P C j) ∧ WRep X (j + 1) (P C j) := rep_hist H 16 le_rfl j hj

/-- The stacked hidden rows. -/
theorem rep_hs : Rep (hs C) fun j => rh (1 / 128) X S j := rep_stack _ fun j => (rep_P H j j.isLt).1.h
/-- The stacked gradients at the predictions. -/
theorem rep_dps : Rep (dps C) fun j => rdp (1 / 128) X S j := rep_stack _ fun j => (rep_P H j j.isLt).1.dp
/-- The stacked gradients before the activation. -/
theorem rep_dpres : Rep (dpres C) fun j => rdpre (1 / 128) X S j := rep_stack _ fun j => (rep_P H j j.isLt).1.dpre

/-- The chunk's answers. -/
theorem rep_ans : Rep (ansRows C) fun s => ans (traj (1 / 128) X S (s + 1)) (X s).q := by
  have h2 : Rep (stack 16 1024 (by decide) fun j => (P C j).h2) fun j => rh2 (1 / 128) X S j :=
    rep_stack _ fun j => (rep_P H j j.isLt).1.h2
  have hl : Rep (stack 16 1 (by decide) fun j => (P C j).lam) fun j _ => rlam X (j + 1) :=
    rep_stack _ fun j => (rep_P H j j.isLt).2.lam
  have hg : Rep (stack 16 1 (by decide) fun j => (P C j).sg) fun j _ => rsgc X (j + 1) :=
    rep_stack _ fun j => (rep_P H j j.isLt).2.sg
  have hb : Rep (stack 16 16 (by decide) fun j => (P C j).br) fun j a => rbe X (j + 1) a :=
    rep_stack _ fun j => (rep_P H j j.isLt).2.br
  have m : Rep (mul (stack 16 1024 (by decide) fun j => (P C j).h2) C.bt) _ := rep_mul h2 H.bt
  have a0 := rep_mulf (rep_bcol (n := 256) hl) (rep_sl (m := 16) (n := 256) m 0 0 (by decide))
  have a1 := rep_mulf (rep_bcol (n := 256) hg) (rep_sl (m := 16) (n := 256) m 0 256 (by decide))
  have b0 := rep_mul (rep_mulf (rep_mulT h2 (rep_hs H)) hb) (rep_dps H)
  have r := rep_addf (rep_addf a0 a1) b0
  unfold ansRows
  refine r.congr fun s d => ?_
  rw [ans, run_p]
  refine congrArg₂ (· + ·) ?_ ?_
  · simp [halves, vm, rh2]
  · rw [Fin.sum_univ_eq_sum_range (fun n => (∑ l, rh2 (1 / 128) X S s l * rh (1 / 128) X S n l) * rbe X (s + 1) n
      * rdp (1 / 128) X S n d) 16]
    refine (sum_subset_zero_on_sdiff (range_subset_range.2 (by omega)) (fun n hn => ?_) fun n _ => ?_).symm
    · rw [rbe, be_zero _ _ _ _ _ (by simpa using (mem_sdiff.1 hn).2)]; simp
    · ring

/-- The matrix that the chunk leaves. -/
theorem rep_newM {a b : ℕ} (p : ℕ) (hp : p = a + a) {x : Mat Ideal 16 a} {y : Mat Ideal 16 b} {W0 W1 : Mat Ideal a b}
    {f : ℕ → Fin a → ℝ} {g : ℕ → Fin b → ℝ} {w0 w1 : Fin a → Fin b → ℝ} (hx : Rep x fun j => f j) (hy : Rep y fun j => g j)
    (h0 : Rep W0 w0) (h1 : Rep W1 w1) : Rep (newM C p hp x y W0 W1) fun i d =>
      rlam X 16 * w0 i d + rsgc X 16 * w1 i d + ∑ j ∈ range 16, rbe X 16 j * (f j i * g j d) := by
  have w := (rep_P H 15 (by decide)).2
  refine (rep_addf (rep_two w.lam w.sg h0 h1) (rep_sl (rep_Tmul (rep_side hp (rep_mulf hx (rep_bcol w.bcl))
    (rep_mulf hx (rep_bcol w.mcl))) hy) 0 0 _)).congr fun i d => ?_
  rw [← Fin.sum_univ_eq_sum_range (fun j => rbe X 16 j * (f j i * g j d)) 16]
  congr 1
  exact sum_congr rfl fun j _ => by simp; ring

/-- The momentum that the chunk leaves. -/
theorem rep_newMom {a b : ℕ} (p : ℕ) (hp : p = a + a) {x : Mat Ideal 16 a} {y : Mat Ideal 16 b} {W1 : Mat Ideal a b}
    {f : ℕ → Fin a → ℝ} {g : ℕ → Fin b → ℝ} {w1 : Fin a → Fin b → ℝ} (hx : Rep x fun j => f j) (hy : Rep y fun j => g j)
    (h1 : Rep W1 w1) : Rep (newMom C p hp x y W1) fun i d =>
      ren X 16 * w1 i d + ∑ j ∈ range 16, rmm X 16 j * (f j i * g j d) := by
  have w := (rep_P H 15 (by decide)).2
  refine (rep_addf (rep_mulf (rep_bc w.en) h1) (rep_sl (rep_Tmul (rep_side hp (rep_mulf hx (rep_bcol w.bcl))
    (rep_mulf hx (rep_bcol w.mcl))) hy) a 0 _)).congr fun i d => ?_
  rw [← Fin.sum_univ_eq_sum_range (fun j => rmm X 16 j * (f j i * g j d)) 16]
  congr 1
  exact sum_congr rfl fun j _ => by simp; ring

end Chunk

end Cert.Proof.Chunk

end
-- ==== Proof.Buffers.lean ====
/-
  A scratch buffer of two halves for each of two rows: what a load of a part of it reads, and what a store of the four
  halves leaves.
-/
module

public import proofs.«01_k».proof.Proof.ChunkValue
public import Idealize.ShloMosaic.Lib.WritesUnit
public import Idealize.ShloMosaic.Lib.ValueLayout
public import Idealize.ShloMosaic.Lib.Pipeline.FrameBody

@[expose] public section

noncomputable section

namespace Cert.Proof.Chunk

open Idealize.ShloMosaic hiding ix2 ix3 ix4
open Idealize.ShloMosaic.ValueIdx Finset

variable {sig : RefSig} {κ : Kind} {sp : Space} {Val : EltTy → Type} {e : EltTy}

/-- A load of a part of one row's matrix, as a matrix. -/
theorem load_apply {R n p n' m : ℕ} (v : View sig κ sp ⟨3, ![R, n, p]⟩ e) (f : v.ty.Contents Val) {off : Fin 3 → ℕ}
    (r o q : ℕ) (hoff : off = ![r, o, q])
    (inb : ∀ a, off a + (![1, n', m] : Fin 3 → ℕ) a ≤ (⟨3, ![R, n, p]⟩ : Shape).size a)
    (h : (⟨3, ![1, n', m]⟩ : Shape).ShapeCasts ⟨2, ![n', m]⟩) (i : Fin n') (j : Fin m)
    (hr : r < R) (ho : o + i < n) (hq : q + j < p) :
    shapeCast ⟨2, ![n', m]⟩ (v.readAt Val (Rect.unit (s := ⟨3, ![R, n, p]⟩) off ![1, n', m] inb).toLoadRect f) h (ix2 i j)
      = v.read Val f (ix3 ⟨r, hr⟩ ⟨o + i, ho⟩ ⟨q + j, hq⟩) := by
  subst hoff
  refine (shapeCast_1ab_ab_apply _ h i j).trans ?_
  refine congrArg (v.read Val f) (funext fun d => Fin.ext ?_)
  match d with
  | 0 => exact (congrArg (r + ·) (Nat.mul_zero 1) : r + 1 * 0 = r)
  | 1 => exact congrArg (o + ·) (Nat.one_mul _)
  | 2 => exact congrArg (q + ·) (Nat.one_mul _)

/-- What the stores of the four halves leave. -/
theorem store_apply {n m p : ℕ} (hp : p = m + m) (v : View sig κ sp ⟨3, ![2, n, p]⟩ e) (f : v.ty.Contents Val)
    (x y : Fin 2 → (⟨2, ![n, m]⟩ : Shape).Idx → Val e) (h : (⟨2, ![n, m]⟩ : Shape).ShapeCasts ⟨3, ![1, n, m]⟩)
    (i00 : ∀ a, (![0, 0, 0] : Fin 3 → ℕ) a + (![1, n, m] : Fin 3 → ℕ) a ≤ (⟨3, ![2, n, p]⟩ : Shape).size a)
    (i01 : ∀ a, (![0, 0, m] : Fin 3 → ℕ) a + (![1, n, m] : Fin 3 → ℕ) a ≤ (⟨3, ![2, n, p]⟩ : Shape).size a)
    (i10 : ∀ a, (![1, 0, 0] : Fin 3 → ℕ) a + (![1, n, m] : Fin 3 → ℕ) a ≤ (⟨3, ![2, n, p]⟩ : Shape).size a)
    (i11 : ∀ a, (![1, 0, m] : Fin 3 → ℕ) a + (![1, n, m] : Fin 3 → ℕ) a ≤ (⟨3, ![2, n, p]⟩ : Shape).size a)
    (r : Fin 2) (i : Fin n) (j : Fin p) :
    v.read Val (v.writes Val f
      [⟨Rect.unit (s := ⟨3, ![2, n, p]⟩) ![1, 0, m] ![1, n, m] i11, shapeCast ⟨3, ![1, n, m]⟩ (y 1) h⟩,
       ⟨Rect.unit (s := ⟨3, ![2, n, p]⟩) ![1, 0, 0] ![1, n, m] i10, shapeCast ⟨3, ![1, n, m]⟩ (x 1) h⟩,
       ⟨Rect.unit (s := ⟨3, ![2, n, p]⟩) ![0, 0, m] ![1, n, m] i01, shapeCast ⟨3, ![1, n, m]⟩ (y 0) h⟩,
       ⟨Rect.unit (s := ⟨3, ![2, n, p]⟩) ![0, 0, 0] ![1, n, m] i00, shapeCast ⟨3, ![1, n, m]⟩ (x 0) h⟩]) (ix3 r i j)
      = if h : j.val < m then x r (ix2 i ⟨j, h⟩) else y r (ix2 i ⟨j - m, by omega⟩) := by
  have out (b : Fin 3) (off : Fin 3 → ℕ) (inb : ∀ a, off a + (![1, n, m] : Fin 3 → ℕ) a ≤ (⟨3, ![2, n, p]⟩ : Shape).size a) w L
      (hb : ((ix3 r i j : (⟨3, ![2, n, p]⟩ : Shape).Idx) b).val < off b ∨ off b + (![1, n, m] : Fin 3 → ℕ) b ≤ ((ix3 r i j : (⟨3, ![2, n, p]⟩ : Shape).Idx) b).val) :=
    View.read_writes_cons_unit_of_not_mem v f inb w L (ix3 r i j) rfl b hb
  have hit (off : Fin 3 → ℕ) (inb : ∀ a, off a + (![1, n, m] : Fin 3 → ℕ) a ≤ (⟨3, ![2, n, p]⟩ : Shape).size a) (z : (⟨2, ![n, m]⟩ : Shape).Idx → Val e) L
      (k : Fin m) (h0 : r.val = off 0) (h1 : off 1 = 0) (h2 : j.val = off 2 + k.val) :=
    (View.read_writes_cons_unit_of_mem v f inb (shapeCast ⟨3, ![1, n, m]⟩ z h) L (ix3 r i j) (ix3 0 i k) rfl (fun a => match a with
      | 0 => h0 | 1 => by rw [h1]; exact (Nat.zero_add _).symm | 2 => h2)).trans (shapeCast_ab_1ab_apply z h 0 i k)
  by_cases hj : j.val < m
  · rw [dif_pos hj]
    match r with
    | 0 =>
      refine (out 0 _ i11 _ _ (.inl Nat.zero_lt_one)).trans ((out 0 _ i10 _ _ (.inl Nat.zero_lt_one)).trans
        ((out 2 _ i01 _ _ (.inl hj)).trans (hit _ i00 _ _ ⟨j, hj⟩ rfl rfl (Nat.zero_add _).symm)))
    | 1 =>
      refine (out 2 _ i11 _ _ (.inl hj)).trans (hit _ i10 _ _ ⟨j, hj⟩ rfl rfl (Nat.zero_add _).symm)
  · rw [dif_neg hj]
    have e : j.val = m + (j.val - m) := by omega
    match r with
    | 0 =>
      refine (out 0 _ i11 _ _ (.inl Nat.zero_lt_one)).trans ((out 0 _ i10 _ _ (.inl Nat.zero_lt_one)).trans
        (hit _ i01 _ _ ⟨j - m, by omega⟩ rfl rfl e))
    | 1 => exact hit _ i11 _ _ ⟨j - m, by omega⟩ rfl rfl e

end Cert.Proof.Chunk

end
-- ==== Proof.Loop.lean ====
/-
  The kernel's loop: four trips of a chunk for each of the two rows of the block. Before trip `k` the scratch holds the
  states of the two rows' trajectories after `16 * k` steps and the output block holds the answers of those steps.
-/
module

public import proofs.«01_k».proof.Proof.Tie
public import proofs.«01_k».proof.Proof.Buffers

@[expose] public section

set_option maxRecDepth 16384

noncomputable section

namespace Cert.Proof.Chunk

open Cert.KernelIdeal Cert.KernelIdeal.Gen Idealize.ShloMosaic.TcCoe
open Idealize.ShloMosaic hiding ix2 ix3 ix4
open Idealize.ShloMosaic.ValueIdx Finset Cert.Proof.Memory

/-! ## Where the trips read and store -/

/-- Where the first row's keys are read. -/
theorem off1 : ∀ k : Fin k0_t1_loop.trips, k0_off1 k = ![0, 16 * k.val, 256] := by decide +kernel
/-- Where the first row's queries are read. -/
theorem off2 : ∀ k : Fin k0_t1_loop.trips, k0_off2 k = ![0, 16 * k.val, 0] := by decide +kernel
/-- Where the first row's values are read. -/
theorem off3 : ∀ k : Fin k0_t1_loop.trips, k0_off3 k = ![0, 16 * k.val, 512] := by decide +kernel
/-- Where the first row's gates are read. -/
theorem off4 : ∀ k : Fin k0_t1_loop.trips, k0_off4 k = ![0, 16 * k.val, 0] := by decide +kernel
/-- Where the first row's answers are stored. -/
theorem off5 : ∀ k : Fin k0_t1_loop.trips, k0_off5 k = ![0, 16 * k.val, 0, 0] := by decide +kernel
/-- Where the second row's keys are read. -/
theorem off6 : ∀ k : Fin k0_t1_loop.trips, k0_off6 k = ![1, 16 * k.val, 256] := by decide +kernel
/-- Where the second row's queries are read. -/
theorem off7 : ∀ k : Fin k0_t1_loop.trips, k0_off7 k = ![1, 16 * k.val, 0] := by decide +kernel
/-- Where the second row's values are read. -/
theorem off8 : ∀ k : Fin k0_t1_loop.trips, k0_off8 k = ![1, 16 * k.val, 512] := by decide +kernel
/-- Where the second row's gates are read. -/
theorem off9 : ∀ k : Fin k0_t1_loop.trips, k0_off9 k = ![1, 16 * k.val, 0] := by decide +kernel
/-- Where the second row's answers are stored. -/
theorem off10 : ∀ k : Fin k0_t1_loop.trips, k0_off10 k = ![1, 16 * k.val, 0, 0] := by decide +kernel

/-- There are four trips. -/
theorem trips_eq : k0_t1_loop.trips = 4 := by decide +kernel

/-- A trip's number is below four. -/
theorem trip_lt (k : Fin k0_t1_loop.trips) : k.val < 4 := lt_of_lt_of_eq k.isLt trips_eq

/-! ## What the buffers hold -/

variable {sig' : RefSig} {κ : Kind} {sp : Space}

/-- The two rows' matrices side by side with their momenta. -/
def Holds {n m : ℕ} (p : ℕ) (hp : p = m + m) (v : View sig' κ sp ⟨3, ![2, n, p]⟩ .f32) (W M : Fin 2 → Fin n → Fin m → ℝ)
    (f : v.ty.Contents (Elt Ideal)) : Prop :=
  ∀ r i j, v.read (Elt Ideal) f (ix3 r i j) = ((halves p hp (W r) (M r) i j : ℝ) : EReal)

variable (X : Fin 2 → ℕ → Inp (Fin 256))

/-- The activations and the gates. -/
structure Acts (v : View sig' κ sp S2x64x768 .f32) (w : View sig' κ sp S2x64x128 .f32) (f : v.ty.Contents (Elt Ideal))
    (g : w.ty.Contents (Elt Ideal)) : Prop where
  q : ∀ r (t : Fin 64) (j : Fin 256), v.read (Elt Ideal) f (ix3 r t ⟨0 + j, by omega⟩) = (((X r t).q j : ℝ) : EReal)
  k : ∀ r (t : Fin 64) (j : Fin 256), v.read (Elt Ideal) f (ix3 r t ⟨256 + j, by omega⟩) = (((X r t).k j : ℝ) : EReal)
  v : ∀ r (t : Fin 64) (j : Fin 256), v.read (Elt Ideal) f (ix3 r t ⟨512 + j, by omega⟩) = (((X r t).v j : ℝ) : EReal)
  al : ∀ r (t : Fin 64), w.read (Elt Ideal) g (ix3 r t ⟨0 + 0, by omega⟩) = ((1 - (X r t).keep : ℝ) : EReal)
  th : ∀ r (t : Fin 64), w.read (Elt Ideal) g (ix3 r t ⟨0 + 1, by omega⟩) = (((X r t).c / 2 : ℝ) : EReal)
  et : ∀ r (t : Fin 64), w.read (Elt Ideal) g (ix3 r t ⟨0 + 2, by omega⟩) = (((X r t).e : ℝ) : EReal)

/-- A row's part of a buffer of halves, whole. -/
theorem load_rep {n m p : ℕ} {hp : p = m + m} {v : View sig' κ sp ⟨3, ![2, n, p]⟩ .f32} {W M : Fin 2 → Fin n → Fin m → ℝ}
    {f : v.ty.Contents (Elt Ideal)} (H : Holds p hp v W M f) (r : Fin 2) {off : Fin 3 → ℕ} (hoff : off = ![r.val, 0, 0]) (inb)
    (h : (⟨3, ![1, n, p]⟩ : Shape).ShapeCasts ⟨2, ![n, p]⟩) :
    Rep (shapeCast ⟨2, ![n, p]⟩ (v.readAt (Elt Ideal) (Rect.unit (s := ⟨3, ![2, n, p]⟩) off ![1, n, p] inb).toLoadRect f) h)
      (halves p hp (W r) (M r)) := fun i j =>
  (load_apply v f r.val 0 0 hoff inb h i j r.isLt (by omega) (by omega)).trans <| (H _ _ _).trans <| by simp

/-- A row's first half. -/
theorem load_fst {n m p : ℕ} {hp : p = m + m} {v : View sig' κ sp ⟨3, ![2, n, p]⟩ .f32} {W M : Fin 2 → Fin n → Fin m → ℝ}
    {f : v.ty.Contents (Elt Ideal)} (H : Holds p hp v W M f) (r : Fin 2) {off : Fin 3 → ℕ} (hoff : off = ![r.val, 0, 0]) (inb)
    (h : (⟨3, ![1, n, m]⟩ : Shape).ShapeCasts ⟨2, ![n, m]⟩) :
    Rep (shapeCast ⟨2, ![n, m]⟩ (v.readAt (Elt Ideal) (Rect.unit (s := ⟨3, ![2, n, p]⟩) off ![1, n, m] inb).toLoadRect f) h)
      (W r) := fun i j =>
  (load_apply v f r.val 0 0 hoff inb h i j r.isLt (by omega) (by omega)).trans <| (H _ _ _).trans <| by simp [halves]

/-- A row's second half. -/
theorem load_snd {n m p : ℕ} {hp : p = m + m} {v : View sig' κ sp ⟨3, ![2, n, p]⟩ .f32} {W M : Fin 2 → Fin n → Fin m → ℝ}
    {f : v.ty.Contents (Elt Ideal)} (H : Holds p hp v W M f) (r : Fin 2) {off : Fin 3 → ℕ} (hoff : off = ![r.val, 0, m]) (inb)
    (h : (⟨3, ![1, n, m]⟩ : Shape).ShapeCasts ⟨2, ![n, m]⟩) :
    Rep (shapeCast ⟨2, ![n, m]⟩ (v.readAt (Elt Ideal) (Rect.unit (s := ⟨3, ![2, n, p]⟩) off ![1, n, m] inb).toLoadRect f) h)
      (M r) := fun i j =>
  (load_apply v f r.val 0 m hoff inb h i j r.isLt (by omega) (by omega)).trans <| (H _ _ _).trans <| by simp [halves]

/-- The stores of the halves of new matrices and momenta. -/
theorem store_holds {n m p : ℕ} (hp : p = m + m) (v : View sig' κ sp ⟨3, ![2, n, p]⟩ .f32) (f : v.ty.Contents (Elt Ideal))
    {W M : Fin 2 → Fin n → Fin m → ℝ} {x0 x1 y0 y1 : Mat Ideal n m} (h : (⟨2, ![n, m]⟩ : Shape).ShapeCasts ⟨3, ![1, n, m]⟩) (i00) (i01) (i10) (i11)
    (hx0 : Rep x0 (W 0)) (hx1 : Rep x1 (W 1)) (hy0 : Rep y0 (M 0)) (hy1 : Rep y1 (M 1)) :
    Holds p hp v W M (v.writes (Elt Ideal) f
      [⟨Rect.unit (s := ⟨3, ![2, n, p]⟩) ![1, 0, m] ![1, n, m] i11, shapeCast ⟨3, ![1, n, m]⟩ y1 h⟩,
       ⟨Rect.unit (s := ⟨3, ![2, n, p]⟩) ![1, 0, 0] ![1, n, m] i10, shapeCast ⟨3, ![1, n, m]⟩ x1 h⟩,
       ⟨Rect.unit (s := ⟨3, ![2, n, p]⟩) ![0, 0, m] ![1, n, m] i01, shapeCast ⟨3, ![1, n, m]⟩ y0 h⟩,
       ⟨Rect.unit (s := ⟨3, ![2, n, p]⟩) ![0, 0, 0] ![1, n, m] i00, shapeCast ⟨3, ![1, n, m]⟩ x0 h⟩]) := fun r i j => by
  refine (store_apply hp v f (fun r => if r = 0 then x0 else x1) (fun r => if r = 0 then y0 else y1) h i00 i01 i10 i11 r i j).trans ?_
  unfold halves
  match r with
  | 0 => split <;> [exact hx0 _ _; exact hy0 _ _]
  | 1 => split <;> [exact hx1 _ _; exact hy1 _ _]

/-- The stores of a chunk's new matrices and momenta, of the halves it loads. -/
theorem new_holds {n m : ℕ} (p P : ℕ) (hp : p = m + m) (hP : P = n + n) (v : View sig' κ sp ⟨3, ![2, n, p]⟩ .f32)
    (fb : v.ty.Contents (Elt Ideal)) {C0 C1 : Ctx Ideal} {X : Fin 2 → ℕ → Inp (Fin 256)} {S : Fin 2 → St (Fin 256) (Fin 1024)}
    (F0 : Fits C0 (X 0) (S 0)) (F1 : Fits C1 (X 1) (S 1)) {W M : Fin 2 → Fin n → Fin m → ℝ} (H : Holds p hp v W M fb)
    {x0 x1 : Mat Ideal 16 n} {y0 y1 : Mat Ideal 16 m} (f : Fin 2 → ℕ → Fin n → ℝ) (g : Fin 2 → ℕ → Fin m → ℝ)
    (hx0 : Rep x0 fun j => f 0 j) (hx1 : Rep x1 fun j => f 1 j) (hy0 : Rep y0 fun j => g 0 j) (hy1 : Rep y1 fun j => g 1 j)
    (h' : (⟨3, ![1, n, m]⟩ : Shape).ShapeCasts ⟨2, ![n, m]⟩)
    (h : (⟨2, ![n, m]⟩ : Shape).ShapeCasts ⟨3, ![1, n, m]⟩) (i00) (i01) (i10) (i11) :
    Holds p hp v (fun r i d => rlam (X r) 16 * W r i d + rsgc (X r) 16 * M r i d + ∑ j ∈ range 16, rbe (X r) 16 j * (f r j i * g r j d))
      (fun r i d => ren (X r) 16 * M r i d + ∑ j ∈ range 16, rmm (X r) 16 j * (f r j i * g r j d)) (v.writes (Elt Ideal) fb
      [⟨Rect.unit (s := ⟨3, ![2, n, p]⟩) ![1, 0, m] ![1, n, m] i11, shapeCast ⟨3, ![1, n, m]⟩ (newMom C1 P hP x1 y1
          (shapeCast ⟨2, ![n, m]⟩ (v.readAt (Elt Ideal) (Rect.unit (s := ⟨3, ![2, n, p]⟩) ![1, 0, m] ![1, n, m] i11).toLoadRect fb) h')) h⟩,
       ⟨Rect.unit (s := ⟨3, ![2, n, p]⟩) ![1, 0, 0] ![1, n, m] i10, shapeCast ⟨3, ![1, n, m]⟩ (newM C1 P hP x1 y1
          (shapeCast ⟨2, ![n, m]⟩ (v.readAt (Elt Ideal) (Rect.unit (s := ⟨3, ![2, n, p]⟩) ![1, 0, 0] ![1, n, m] i10).toLoadRect fb) h')
          (shapeCast ⟨2, ![n, m]⟩ (v.readAt (Elt Ideal) (Rect.unit (s := ⟨3, ![2, n, p]⟩) ![1, 0, m] ![1, n, m] i11).toLoadRect fb) h')) h⟩,
       ⟨Rect.unit (s := ⟨3, ![2, n, p]⟩) ![0, 0, m] ![1, n, m] i01, shapeCast ⟨3, ![1, n, m]⟩ (newMom C0 P hP x0 y0
          (shapeCast ⟨2, ![n, m]⟩ (v.readAt (Elt Ideal) (Rect.unit (s := ⟨3, ![2, n, p]⟩) ![0, 0, m] ![1, n, m] i01).toLoadRect fb) h')) h⟩,
       ⟨Rect.unit (s := ⟨3, ![2, n, p]⟩) ![0, 0, 0] ![1, n, m] i00, shapeCast ⟨3, ![1, n, m]⟩ (newM C0 P hP x0 y0
          (shapeCast ⟨2, ![n, m]⟩ (v.readAt (Elt Ideal) (Rect.unit (s := ⟨3, ![2, n, p]⟩) ![0, 0, 0] ![1, n, m] i00).toLoadRect fb) h')
          (shapeCast ⟨2, ![n, m]⟩ (v.readAt (Elt Ideal) (Rect.unit (s := ⟨3, ![2, n, p]⟩) ![0, 0, m] ![1, n, m] i01).toLoadRect fb) h')) h⟩]) := by
  have a0 := load_fst H 0 rfl i00 h'
  have b0 := load_snd H 0 rfl i01 h'
  have a1 := load_fst H 1 rfl i10 h'
  have b1 := load_snd H 1 rfl i11 h'
  exact store_holds hp v fb h i00 i01 i10 i11 (rep_newM F0 P hP hx0 hy0 a0 b0) (rep_newM F1 P hP hx1 hy1 a1 b1)
    (rep_newMom F0 P hP hx0 hy0 b0) (rep_newMom F1 P hP hx1 hy1 b1)

/-- Holding depends on the matrices alone. -/
theorem Holds.congr {n m p : ℕ} {hp : p = m + m} {v : View sig' κ sp ⟨3, ![2, n, p]⟩ .f32} {W M W' M' : Fin 2 → Fin n → Fin m → ℝ}
    {f : v.ty.Contents (Elt Ideal)} (H : Holds p hp v W M f) (hW : ∀ r i j, W r i j = W' r i j) (hM : ∀ r i j, M r i j = M' r i j) :
    Holds p hp v W' M' f := by
  rw [← show W = W' from funext₃ hW, ← show M = M' from funext₃ hM]; exact H

/-- The stores of a trip's answers. -/
theorem store_ans (v : View sig' κ sp S2x64x1x256 .f32) (f : v.ty.Contents (Elt Ideal)) (k : ℕ)
    {Y : Fin 2 → ℕ → Fin 256 → ℝ} {o0 o1 : Fin 4 → ℕ} (h0 : o0 = ![0, 16 * k, 0, 0]) (h1 : o1 = ![1, 16 * k, 0, 0])
    (i0 : ∀ a, o0 a + S1x16x1x256.size a ≤ S2x64x1x256.size a) (i1 : ∀ a, o1 a + S1x16x1x256.size a ≤ S2x64x1x256.size a)
    {x0 x1 : Mat Ideal 16 256} (c0 : S16x256.ShapeCasts S16x1x256) (c1 : S16x1x256.ShapeCasts S1x16x1x256)
    (hx0 : Rep x0 fun s => Y 0 (16 * k + s)) (hx1 : Rep x1 fun s => Y 1 (16 * k + s))
    (hf : ∀ r (t : Fin 64) d, t.val < 16 * k → v.read (Elt Ideal) f (ix4 r t 0 d) = ((Y r t d : ℝ) : EReal)) :
    ∀ r (t : Fin 64) d, t.val < 16 * (k + 1) → v.read (Elt Ideal) (v.writes (Elt Ideal) f
      [⟨Rect.unit (s := S2x64x1x256) o1 S1x16x1x256.size i1, shapeCast S1x16x1x256 (shapeCast S16x1x256 x1 c0) c1⟩,
       ⟨Rect.unit (s := S2x64x1x256) o0 S1x16x1x256.size i0, shapeCast S1x16x1x256 (shapeCast S16x1x256 x0 c0) c1⟩]) (ix4 r t 0 d)
      = ((Y r t d : ℝ) : EReal) := fun r t d ht => by
  have cast (x : Mat Ideal 16 256) (s : Fin 16) :
      shapeCast S1x16x1x256 (shapeCast S16x1x256 x c0) c1 (ix4 0 s 0 d) = x (ix2 s d) :=
    (shapeCast_abc_1abc_apply _ c1 0 s 0 d).trans (shapeCast_apply x c0 _ _ (by
      rw [Shape.rowMajor_val_three, Shape.rowMajor_val_two]; show s.val * 256 + d.val = (s.val * 1 + 0) * 256 + d.val; omega))
  subst h0 h1
  by_cases h : t.val < 16 * k
  · refine (View.read_writes_cons_unit_of_not_mem v f i1 _ _ _ rfl 1 (.inl h)).trans
      ((View.read_writes_cons_unit_of_not_mem v f i0 _ _ _ rfl 1 (.inl h)).trans (hf r t d h))
  · have e : t.val = 16 * k + (t.val - 16 * k) := by omega
    match r with
    | 0 =>
      refine (View.read_writes_cons_unit_of_not_mem v f i1 _ _ _ rfl 0 (.inl Nat.zero_lt_one)).trans
        ((View.read_writes_cons_unit_of_mem v f i0 _ _ _ (ix4 0 ⟨t.val - 16 * k, by omega⟩ 0 d) rfl fun a => match a with
          | 0 => rfl | 1 => e | 2 => rfl | 3 => (Nat.zero_add _).symm).trans ((cast x0 _).trans ((hx0 _ _).trans ?_)))
      dsimp only; rw [← e]
    | 1 =>
      refine (View.read_writes_cons_unit_of_mem v f i1 _ _ _ (ix4 0 ⟨t.val - 16 * k, by omega⟩ 0 d) rfl fun a => match a with
          | 0 => rfl | 1 => e | 2 => rfl | 3 => (Nat.zero_add _).symm).trans ((cast x1 _).trans ((hx1 _ _).trans ?_))
      dsimp only; rw [← e]

/-! ## A trip -/

section Trip

variable (𝒱 : Variants) (c : Dev nD) (bd : Option 𝒱.V) (i : grid0.Coords)
  (arg1 : Memref sig .tc .vmem S2x64x256 .f32) (harg1 : arg1.IsWhole) (arg2 : Memref sig .tc .vmem S256x896 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S2x64x1x256 .f32) (harg9 : arg9.IsWhole) (arg10 : Memref sig .tc .vmem S2x64x768 .f32) (harg10 : arg10.IsWhole) (arg11 : Memref sig .tc .vmem S2x64x128 .f32) (harg11 : arg11.IsWhole) (arg12 : Memref sig .tc .vmem S2x256x2048 .f32) (harg12 : arg12.IsWhole) (arg13 : Memref sig .tc .vmem S2x1024x512 .f32) (harg13 : arg13.IsWhole) (arg14 : Memref sig .tc .vmem S2x256x2048 .f32) (harg14 : arg14.IsWhole)
  {X_arg10 : BufTy.Contents (Elt Ideal) arg10.view.ty} {X_arg11 : BufTy.Contents (Elt Ideal) arg11.view.ty}

/-- What the buffers hold before trip `k`. -/
structure Inv (S : Fin 2 → St (Fin 256) (Fin 1024)) (k : ℕ) (f_arg9 : BufTy.Contents (Elt Ideal) arg9.view.ty)
    (f_arg12 : BufTy.Contents (Elt Ideal) arg12.view.ty) (f_arg13 : BufTy.Contents (Elt Ideal) arg13.view.ty)
    (f_arg14 : BufTy.Contents (Elt Ideal) arg14.view.ty) : Prop where
  out : ∀ r (t : Fin 64) d, t.val < 16 * k → arg9.view.read (Elt Ideal) f_arg9 (ix4 r t 0 d)
    = ((ans (traj (1 / 128) (X r) (S r) (t + 1)) (X r t).q d : ℝ) : EReal)
  am : Holds 2048 rfl arg12.view (fun r => (traj (1 / 128) (X r) (S r) (16 * k)).A)
    (fun r => (traj (1 / 128) (X r) (S r) (16 * k)).MA) f_arg12
  bt : Holds 512 rfl arg13.view (fun r => (traj (1 / 128) (X r) (S r) (16 * k)).B)
    (fun r => (traj (1 / 128) (X r) (S r) (16 * k)).MB) f_arg13
  bm : Holds 2048 rfl arg14.view (fun r j d => (traj (1 / 128) (X r) (S r) (16 * k)).B d j)
    (fun r j d => (traj (1 / 128) (X r) (S r) (16 * k)).MB d j) f_arg14

variable {X} {S : Fin 2 → St (Fin 256) (Fin 1024)} {f_arg9 : BufTy.Contents (Elt Ideal) arg9.view.ty}
  {f_arg12 : BufTy.Contents (Elt Ideal) arg12.view.ty} {f_arg13 : BufTy.Contents (Elt Ideal) arg13.view.ty}
  {f_arg14 : BufTy.Contents (Elt Ideal) arg14.view.ty} (k : Fin k0_t1_loop.trips)
  (HA : Acts X arg10.view arg11.view X_arg10 X_arg11) (H : Inv X arg9 arg12 arg13 arg14 S k f_arg9 f_arg12 f_arg13 f_arg14)
include HA H

/-- Row 0's chunk reads its inputs and its state. -/
theorem fits0 : Fits (ctx0 arg10 arg11 arg12 arg13 arg14 X_arg10 X_arg11 f_arg12 f_arg13 f_arg14 k)
    (fun n => X 0 (16 * k + n)) (traj (1 / 128) (X 0) (S 0) (16 * k)) := by
  have := trip_lt k
  exact {
    kc := fun a j => (load_apply arg10.view X_arg10 0 (16 * k) 256 (off1 k) _ _ a j (by omega) (by omega) (by omega)).trans (HA.k 0 ⟨16 * k + a, by omega⟩ j)
    qc := fun a j => (load_apply arg10.view X_arg10 0 (16 * k) 0 (off2 k) _ _ a j (by omega) (by omega) (by omega)).trans (HA.q 0 ⟨16 * k + a, by omega⟩ j)
    vc := fun a j => (load_apply arg10.view X_arg10 0 (16 * k) 512 (off3 k) _ _ a j (by omega) (by omega) (by omega)).trans (HA.v 0 ⟨16 * k + a, by omega⟩ j)
    al := fun a => (load_apply arg11.view X_arg11 0 (16 * k) 0 (off4 k) _ _ a 0 (by omega) (by omega) (by decide)).trans (HA.al 0 ⟨16 * k + a, by omega⟩)
    th := fun a => (load_apply arg11.view X_arg11 0 (16 * k) 0 (off4 k) _ _ a 1 (by omega) (by omega) (by decide)).trans (HA.th 0 ⟨16 * k + a, by omega⟩)
    et := fun a => (load_apply arg11.view X_arg11 0 (16 * k) 0 (off4 k) _ _ a 2 (by omega) (by omega) (by decide)).trans (HA.et 0 ⟨16 * k + a, by omega⟩)
    am := load_rep H.am 0 rfl _ _
    bt := load_rep H.bt 0 rfl _ _
    bm := load_rep H.bm 0 rfl _ _ }

/-- Row 1's chunk reads its inputs and its state. -/
theorem fits1 : Fits (ctx1 arg10 arg11 arg12 arg13 arg14 X_arg10 X_arg11 f_arg12 f_arg13 f_arg14 k)
    (fun n => X 1 (16 * k + n)) (traj (1 / 128) (X 1) (S 1) (16 * k)) := by
  have := trip_lt k
  exact {
    kc := fun a j => (load_apply arg10.view X_arg10 1 (16 * k) 256 (off6 k) _ _ a j (by omega) (by omega) (by omega)).trans (HA.k 1 ⟨16 * k + a, by omega⟩ j)
    qc := fun a j => (load_apply arg10.view X_arg10 1 (16 * k) 0 (off7 k) _ _ a j (by omega) (by omega) (by omega)).trans (HA.q 1 ⟨16 * k + a, by omega⟩ j)
    vc := fun a j => (load_apply arg10.view X_arg10 1 (16 * k) 512 (off8 k) _ _ a j (by omega) (by omega) (by omega)).trans (HA.v 1 ⟨16 * k + a, by omega⟩ j)
    al := fun a => (load_apply arg11.view X_arg11 1 (16 * k) 0 (off9 k) _ _ a 0 (by omega) (by omega) (by decide)).trans (HA.al 1 ⟨16 * k + a, by omega⟩)
    th := fun a => (load_apply arg11.view X_arg11 1 (16 * k) 0 (off9 k) _ _ a 1 (by omega) (by omega) (by decide)).trans (HA.th 1 ⟨16 * k + a, by omega⟩)
    et := fun a => (load_apply arg11.view X_arg11 1 (16 * k) 0 (off9 k) _ _ a 2 (by omega) (by omega) (by decide)).trans (HA.et 1 ⟨16 * k + a, by omega⟩)
    am := load_rep H.am 1 rfl _ _
    bt := load_rep H.bt 1 rfl _ _
    bm := load_rep H.bm 1 rfl _ _ }

/-- A trip's pieces take the buffers from what they hold before it to what they hold after it. -/
theorem trip_inv :
    let P := tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_pay956 k0_pay957 k0_pay958 k0_pay959 k0_pay960 k0_pay961 k0_pay962 k0_pay963 k0_pay964 k0_pay965 k0_pay966 k0_pay967 k0_pay968 k0_pay969 k0_pay970 k0_pay971 k0_pay972 k0_pay973 k0_pay974 k0_pay975 k0_pay976 k0_pay977 k0_pay978 k0_pay979 k0_pay980 k0_pay981 k0_pay982 k0_pay983 k0_pay984 k0_pay985 k0_pay986 k0_pay987 k0_pay988 k0_pay989 X_arg10 X_arg11 k f_arg9 f_arg12 f_arg13 f_arg14
    Inv X arg9 arg12 arg13 arg14 S (k + 1) (arg9.view.writes (Elt Ideal) f_arg9 P.1)
      (arg12.view.writes (Elt Ideal) f_arg12 P.2.1) (arg13.view.writes (Elt Ideal) f_arg13 P.2.2.1)
      (arg14.view.writes (Elt Ideal) f_arg14 P.2.2.2) := by
  rw [trip_pieces]
  have F0 := fits0 arg9 arg10 arg11 arg12 arg13 arg14 k HA H
  have F1 := fits1 arg9 arg10 arg11 arg12 arg13 arg14 k HA H
  have e r : traj (1 / 128) (X r) (S r) (16 * (k + 1))
      = traj (1 / 128) (fun n => X r (16 * k + n)) (traj (1 / 128) (X r) (S r) (16 * k)) 16 := traj_add _ _ _ (16 * k) 16
  have h2 := new_holds (n := 256) (m := 1024) 2048 512 rfl rfl arg12.view f_arg12 (X := fun r n => X r (16 * k + n))
    (S := fun r => traj (1 / 128) (X r) (S r) (16 * k)) F0 F1 H.am (fun r j => (X r (16 * k + j)).k)
    (fun r => rdpre (1 / 128) (fun n => X r (16 * k + n)) (traj (1 / 128) (X r) (S r) (16 * k))) F0.kc F1.kc (rep_dpres F0) (rep_dpres F1)
    shapeCasts_S1x256x1024_S256x1024 shapeCasts_S256x1024_S1x256x1024 inb_S2x256x2048_S1x256x1024_0_0_0
    inb_S2x256x2048_S1x256x1024_0_0_1024 inb_S2x256x2048_S1x256x1024_1_0_0 inb_S2x256x2048_S1x256x1024_1_0_1024
  have h3 := new_holds (n := 1024) (m := 256) 512 2048 rfl rfl arg13.view f_arg13 (X := fun r n => X r (16 * k + n))
    (S := fun r => traj (1 / 128) (X r) (S r) (16 * k)) F0 F1 H.bt
    (fun r => rh (1 / 128) (fun n => X r (16 * k + n)) (traj (1 / 128) (X r) (S r) (16 * k)))
    (fun r => rdp (1 / 128) (fun n => X r (16 * k + n)) (traj (1 / 128) (X r) (S r) (16 * k)))
    (rep_hs F0) (rep_hs F1) (rep_dps F0) (rep_dps F1)
    shapeCasts_S1x1024x256_S1024x256 shapeCasts_S1024x256_S1x1024x256 inb_S2x1024x512_S1x1024x256_0_0_0
    inb_S2x1024x512_S1x1024x256_0_0_256 inb_S2x1024x512_S1x1024x256_1_0_0 inb_S2x1024x512_S1x1024x256_1_0_256
  have h4 := new_holds (n := 256) (m := 1024) 2048 512 rfl rfl arg14.view f_arg14 (X := fun r n => X r (16 * k + n))
    (S := fun r => traj (1 / 128) (X r) (S r) (16 * k)) F0 F1 H.bm
    (fun r => rdp (1 / 128) (fun n => X r (16 * k + n)) (traj (1 / 128) (X r) (S r) (16 * k)))
    (fun r => rh (1 / 128) (fun n => X r (16 * k + n)) (traj (1 / 128) (X r) (S r) (16 * k)))
    (rep_dps F0) (rep_dps F1) (rep_hs F0) (rep_hs F1)
    shapeCasts_S1x256x1024_S256x1024 shapeCasts_S256x1024_S1x256x1024 inb_S2x256x2048_S1x256x1024_0_0_0
    inb_S2x256x2048_S1x256x1024_0_0_1024 inb_S2x256x2048_S1x256x1024_1_0_0 inb_S2x256x2048_S1x256x1024_1_0_1024
  have h1 := store_ans arg9.view f_arg9 k (Y := fun r t => ans (traj (1 / 128) (X r) (S r) (t + 1)) (X r t).q)
      (off5 k) (off10 k) (k0_off5_inb k) (k0_off10_inb k) shapeCasts_S16x256_S16x1x256 shapeCasts_S16x1x256_S1x16x1x256
      ((rep_ans F0).congr fun s d => by rw [← traj_add, Nat.add_assoc]) ((rep_ans F1).congr fun s d => by rw [← traj_add, Nat.add_assoc]) H.out
  refine ⟨h1, h2.congr (fun r i d => ?_) fun r i d => ?_, h3.congr (fun r i d => ?_) fun r i d => ?_,
    h4.congr (fun r i d => ?_) fun r i d => ?_⟩
  · exact ((congrArg (fun T => T.A i d) (e r)).trans (traj_A _ _ _ _ _ _)).symm
  · exact ((congrArg (fun T => T.MA i d) (e r)).trans (traj_MA _ _ _ _ _ _)).symm
  · exact ((congrArg (fun T => T.B i d) (e r)).trans (traj_B _ _ _ _ _ _)).symm
  · exact ((congrArg (fun T => T.MB i d) (e r)).trans (traj_MB _ _ _ _ _ _)).symm
  · refine Eq.trans ?_ ((congrArg (fun T => T.B d i) (e r)).trans (traj_B _ _ _ _ _ _)).symm
    simp only [mul_comm (rh _ _ _ _ _)]
  · refine Eq.trans ?_ ((congrArg (fun T => T.MB d i) (e r)).trans (traj_MB _ _ _ _ _ _)).symm
    simp only [mul_comm (rh _ _ _ _ _)]

end Trip

/-! ## The loop -/

section Loop

variable (𝒱 : Variants) (c : Dev nD) (bd : Option 𝒱.V) (i : grid0.Coords)
  (arg1 : Memref sig .tc .vmem S2x64x256 .f32) (harg1 : arg1.IsWhole) (arg2 : Memref sig .tc .vmem S256x896 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S2x64x1x256 .f32) (harg9 : arg9.IsWhole) (arg10 : Memref sig .tc .vmem S2x64x768 .f32) (harg10 : arg10.IsWhole) (arg11 : Memref sig .tc .vmem S2x64x128 .f32) (harg11 : arg11.IsWhole) (arg12 : Memref sig .tc .vmem S2x256x2048 .f32) (harg12 : arg12.IsWhole) (arg13 : Memref sig .tc .vmem S2x1024x512 .f32) (harg13 : arg13.IsWhole) (arg14 : Memref sig .tc .vmem S2x256x2048 .f32) (harg14 : arg14.IsWhole)
  {X_arg10 : BufTy.Contents (Elt Ideal) arg10.view.ty} {X_arg11 : BufTy.Contents (Elt Ideal) arg11.view.ty}
  {X : Fin 2 → ℕ → Inp (Fin 256)} {S : Fin 2 → St (Fin 256) (Fin 1024)} {f_arg9 : BufTy.Contents (Elt Ideal) arg9.view.ty}
  {f_arg12 : BufTy.Contents (Elt Ideal) arg12.view.ty} {f_arg13 : BufTy.Contents (Elt Ideal) arg13.view.ty}
  {f_arg14 : BufTy.Contents (Elt Ideal) arg14.view.ty}
  (HA : Acts X arg10.view arg11.view X_arg10 X_arg11)
  (h12 : Holds 2048 rfl arg12.view (fun r => (S r).A) (fun r => (S r).MA) f_arg12)
  (h13 : Holds 512 rfl arg13.view (fun r => (S r).B) (fun r => (S r).MB) f_arg13)
  (h14 : Holds 2048 rfl arg14.view (fun r j d => (S r).B d j) (fun r j d => (S r).MB d j) f_arg14)
include HA h12 h13 h14

/-- What the buffers hold after `k` trips. -/
theorem loop_inv : (k : ℕ) → k ≤ k0_t1_loop.trips →
    let P := pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_pay956 k0_pay957 k0_pay958 k0_pay959 k0_pay960 k0_pay961 k0_pay962 k0_pay963 k0_pay964 k0_pay965 k0_pay966 k0_pay967 k0_pay968 k0_pay969 k0_pay970 k0_pay971 k0_pay972 k0_pay973 k0_pay974 k0_pay975 k0_pay976 k0_pay977 k0_pay978 k0_pay979 k0_pay980 k0_pay981 k0_pay982 k0_pay983 k0_pay984 k0_pay985 k0_pay986 k0_pay987 k0_pay988 k0_pay989 X_arg10 X_arg11 f_arg9 f_arg12 f_arg13 f_arg14 k
    Inv X arg9 arg12 arg13 arg14 S k (arg9.view.writes (Elt Ideal) f_arg9 P.1)
      (arg12.view.writes (Elt Ideal) f_arg12 P.2.1) (arg13.view.writes (Elt Ideal) f_arg13 P.2.2.1)
      (arg14.view.writes (Elt Ideal) f_arg14 P.2.2.2)
  | 0, _ => ⟨fun _ _ _ h => absurd h (Nat.not_lt_zero _), h12, h13, h14⟩
  | k + 1, hk => by
    have ih := loop_inv k (Nat.le_of_succ_le hk)
    have := trip_inv 𝒱 c bd i arg1 harg1 arg2 harg2 arg3 harg3 arg4 harg4 arg5 harg5 arg6 harg6 arg7 harg7 arg8 harg8 arg9 harg9 arg10 harg10 arg11 harg11 arg12 harg12 arg13 harg13 arg14 harg14 ⟨k, hk⟩ HA ih
    intro P
    have hP : P = _ := pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_pay956 k0_pay957 k0_pay958 k0_pay959 k0_pay960 k0_pay961 k0_pay962 k0_pay963 k0_pay964 k0_pay965 k0_pay966 k0_pay967 k0_pay968 k0_pay969 k0_pay970 k0_pay971 k0_pay972 k0_pay973 k0_pay974 k0_pay975 k0_pay976 k0_pay977 k0_pay978 k0_pay979 k0_pay980 k0_pay981 k0_pay982 k0_pay983 k0_pay984 k0_pay985 k0_pay986 k0_pay987 k0_pay988 k0_pay989 X_arg10 X_arg11 f_arg9 f_arg12 f_arg13 f_arg14 ⟨k, hk⟩
    rw [hP]
    simpa only [View.writes_append] using this

/-- The output block after the loop. -/
theorem loop_out (r : Fin 2) (t : Fin 64) (d : Fin 256) :
    arg9.view.read (Elt Ideal) (arg9.view.writes (Elt Ideal) f_arg9
      (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_pay956 k0_pay957 k0_pay958 k0_pay959 k0_pay960 k0_pay961 k0_pay962 k0_pay963 k0_pay964 k0_pay965 k0_pay966 k0_pay967 k0_pay968 k0_pay969 k0_pay970 k0_pay971 k0_pay972 k0_pay973 k0_pay974 k0_pay975 k0_pay976 k0_pay977 k0_pay978 k0_pay979 k0_pay980 k0_pay981 k0_pay982 k0_pay983 k0_pay984 k0_pay985 k0_pay986 k0_pay987 k0_pay988 k0_pay989 X_arg10 X_arg11 f_arg9 f_arg12 f_arg13 f_arg14 k0_t1_loop.trips).1) (ix4 r t 0 d)
    = ((ans (traj (1 / 128) (X r) (S r) (t + 1)) (X r t).q d : ℝ) : EReal) :=
  (loop_inv 𝒱 c bd i arg1 harg1 arg2 harg2 arg3 harg3 arg4 harg4 arg5 harg5 arg6 harg6 arg7 harg7 arg8 harg8 arg9 harg9 arg10 harg10 arg11 harg11 arg12 harg12 arg13 harg13 arg14 harg14 HA h12 h13 h14 k0_t1_loop.trips le_rfl).out r t d (by rw [trips_eq]; omega)

end Loop

end Cert.Proof.Chunk

end
-- ==== Proof.PrologueValue.lean ====
/-
  What the kernel's scratch holds before its loop, over the reals: the inputs of both rows' time steps, and the starting
  matrices beside momenta of zero.
-/
module

public import proofs.«01_k».proof.Proof.Prologue
public import proofs.«01_k».proof.Proof.Activations
public import proofs.«01_k».proof.Proof.Loop
public import proofs.«01_k».proof.Proof.KernelLaunch
public import Idealize.ShloMosaic.Lib.VecWindow
public import Idealize.ShloMosaic.Lib.ValueLayoutCasts
public import Idealize.ShloMosaic.Lib.Pointwise

@[expose] public section

set_option maxRecDepth 16384

noncomputable section

namespace Cert.Proof.Chunk

open Idealize.ShloMosaic hiding ix2 ix3 ix4
open Idealize.ShloMosaic.ValueIdx Finset Cert.KernelIdeal Cert.KernelIdeal.Gen Cert.Proof.Memory

/-- A matrix loaded whole. -/
theorem rep_whole {m n : ℕ} (a : Memref sig .tc .vmem ⟨2, ![m, n]⟩ .f32) (h : a.IsWhole) (inb) {x : Mat Ideal m n}
    {f : Fin m → Fin n → ℝ} (hx : Rep x f) : Rep (whole a h inb x) f := by
  unfold whole
  rw [View.readAt_full, h.read_unread]
  exact hx

/-- A matrix cast to its own shape. -/
theorem rep_cast {m n : ℕ} {x : Mat Ideal m n} {f : Fin m → Fin n → ℝ} (hx : Rep x f) (h : (M m n).ShapeCasts (M m n)) :
    Rep (shapeCast (M m n) x h) f := fun i j => (congrFun (shapeCast_self x h) (ix2 i j)).trans (hx i j)

/-- Zeros. -/
theorem rep_zeros (m n : ℕ) : Rep (zeros m n : Mat Ideal m n) fun _ _ => 0 := rep_broadcast lit_zero

/-- The activation. -/
theorem rep_silu {m n : ℕ} {x : Mat Ideal m n} {f : Fin m → Fin n → ℝ} (hx : Rep x f) : Rep (silu x) fun i j => act (f i j) :=
  rep_mulf hx (rep_logistic hx)

/-- Rows divided by their norms. -/
theorem rep_unitRows {x : Mat Ideal 64 256} {f : Fin 64 → Fin 256 → ℝ} (hx : Rep x f) :
    Rep (unitRows x) fun t i => nrm (f t) i := fun t i => by
  change unitRows x (Idealize.ShloMosaic.ix2 t i) = _
  replace hx : ∀ a b, x (Idealize.ShloMosaic.ix2 a b) = ((f a b : ℝ) : EReal) := hx
  pointwise [unitRows, bcol, Scalar.ofBits]
  simp only [hx, ← EReal.coe_mul, ← coe_sum, lit_eps]
  exact nrm_coe _ _

/-- The gates. -/
theorem rep_gates {x : Mat Ideal 64 128} {f : Fin 64 → Fin 128 → ℝ} (hx : Rep x f) :
    Rep (gates x) fun t o => sg (f t o) * if o = 1 then tau else 1 := fun t o => by
  change gates x (Idealize.ShloMosaic.ix2 t o) = _
  have hl := rep_logistic hx
  replace hl : ∀ a b, logistic x (Idealize.ShloMosaic.ix2 a b) = ((sg (f a b) : ℝ) : EReal) := hl
  pointwise [gates, Scalar.ofBits]
  change logistic x (Idealize.ShloMosaic.ix2 t o) * _ = _
  rw [hl, lit_tau, EReal.coe_mul]
  congr 1
  have ho := o.isLt
  by_cases h : o = 1
  · subst h; rfl
  · have hn : (BitVec.ofNat 32 o.val) ≠ 1#32 := fun e => h (Fin.ext (by
      have := congrArg BitVec.toNat e
      rw [BitVec.toNat_ofNat, Nat.mod_eq_of_lt (by omega)] at this
      exact this))
    simp only [Scalar.select, IntOp.cmpi, beq_eq_false_iff_ne.2 hn, if_neg h]; simp

/-- The transposed weights, with zeros in the columns that no step uses. -/
def wtr (W : Fin 771 → Fin 256 → ℝ) (i : Fin 256) (o : Fin 896) : ℝ := if h : o.val < 771 then W ⟨o, h⟩ i else 0

/-- A row's projections. -/
theorem wtr_sum (W : Fin 771 → Fin 256 → ℝ) (x : Fin 256 → ℝ) (o : Fin 896) (h : o.val < 771) :
    ∑ i, x i * wtr W i o = fp W x ⟨o, h⟩ := sum_congr rfl fun i _ => by rw [wtr, dif_pos h]

section Stores

variable {sig' : RefSig} {κ : Kind} {sp : Space}

/-- What the six stores of activations leave. -/
theorem act_apply (v : View sig' κ sp S2x64x768 .f32) (f : v.ty.Contents (Elt Ideal)) (fp : Fin 2 → Mat Ideal 64 896) (r : Fin 2)
    (t : Fin 64) (j : Fin 256) (p : ℕ) (z : Mat Ideal 64 256)
    (hz : (p = 0 ∧ z = unitRows (silu (sl 64 256 (fp r) 0 0 (by decide)))) ∨ (p = 256 ∧ z = unitRows (silu (sl 64 256 (fp r) 0 256 (by decide))))
      ∨ (p = 512 ∧ z = silu (sl 64 256 (fp r) 0 512 (by decide)))) (hp : p + j < 768) :
    v.read (Elt Ideal) (v.writes (Elt Ideal) f (actPieces fp)) (ix3 r t ⟨p + j, hp⟩) = z (ix2 t j) := by
  have out (b : Fin 3) (off : Fin 3 → ℕ) (inb : ∀ a, off a + S1x64x256.size a ≤ S2x64x768.size a) w L
      (hb : ((ix3 r t ⟨p + j, hp⟩ : S2x64x768.Idx) b).val < off b ∨ off b + S1x64x256.size b ≤ ((ix3 r t ⟨p + j, hp⟩ : S2x64x768.Idx) b).val) :=
    View.read_writes_cons_unit_of_not_mem v f inb w L (ix3 r t ⟨p + j, hp⟩) rfl b hb
  have hit (off : Fin 3 → ℕ) (inb : ∀ a, off a + S1x64x256.size a ≤ S2x64x768.size a) (z : Mat Ideal 64 256) L
      (h0 : r.val = off 0) (h1 : off 1 = 0) (h2 : p = off 2) :=
    (View.read_writes_cons_unit_of_mem v f inb (shapeCast S1x64x256 z shapeCasts_S64x256_S1x64x256) L (ix3 r t ⟨p + j, hp⟩) (ix3 0 t j) rfl (fun a => match a with
      | 0 => h0 | 1 => by rw [h1]; exact (Nat.zero_add _).symm | 2 => congrArg (· + j.val) h2)).trans (shapeCast_ab_1ab_apply z shapeCasts_S64x256_S1x64x256 0 t j)
  have hj := j.isLt
  unfold actPieces
  match r with
  | 0 =>
    refine (out 0 _ _ _ _ (.inl Nat.zero_lt_one)).trans ((out 0 _ _ _ _ (.inl Nat.zero_lt_one)).trans ((out 0 _ _ _ _ (.inl Nat.zero_lt_one)).trans ?_))
    rcases hz with ⟨rfl, rfl⟩ | ⟨rfl, rfl⟩ | ⟨rfl, rfl⟩
    · exact (out 2 _ _ _ _ (.inl (show 0 + j.val < 512 by omega))).trans ((out 2 _ _ _ _ (.inl (show 0 + j.val < 256 by omega))).trans (hit _ _ _ _ rfl rfl rfl))
    · exact (out 2 _ _ _ _ (.inl (show 256 + j.val < 512 by omega))).trans (hit _ _ _ _ rfl rfl rfl)
    · exact hit _ _ _ _ rfl rfl rfl
  | 1 =>
    rcases hz with ⟨rfl, rfl⟩ | ⟨rfl, rfl⟩ | ⟨rfl, rfl⟩
    · exact (out 2 _ _ _ _ (.inl (show 0 + j.val < 512 by omega))).trans ((out 2 _ _ _ _ (.inl (show 0 + j.val < 256 by omega))).trans (hit _ _ _ _ rfl rfl rfl))
    · exact (out 2 _ _ _ _ (.inl (show 256 + j.val < 512 by omega))).trans (hit _ _ _ _ rfl rfl rfl)
    · exact hit _ _ _ _ rfl rfl rfl

/-- What the two stores of gates leave. -/
theorem gate_apply (v : View sig' κ sp S2x64x128 .f32) (f : v.ty.Contents (Elt Ideal)) (fp : Fin 2 → Mat Ideal 64 896) (r : Fin 2)
    (t : Fin 64) (o : Fin 128) :
    v.read (Elt Ideal) (v.writes (Elt Ideal) f (gatePieces fp)) (ix3 r t o) = gates (sl 64 128 (fp r) 0 768 (by decide)) (ix2 t o) := by
  have hit (off : Fin 3 → ℕ) (inb : ∀ a, off a + S1x64x128.size a ≤ S2x64x128.size a) (z : Mat Ideal 64 128) L
      (h0 : r.val = off 0) (h1 : off 1 = 0) (h2 : off 2 = 0) :=
    (View.read_writes_cons_unit_of_mem v f inb (shapeCast S1x64x128 z shapeCasts_S64x128_S1x64x128) L (ix3 r t o) (ix3 0 t o) rfl (fun a => match a with
      | 0 => h0 | 1 => by rw [h1]; exact (Nat.zero_add _).symm | 2 => by rw [h2]; exact (Nat.zero_add _).symm)).trans (shapeCast_ab_1ab_apply z shapeCasts_S64x128_S1x64x128 0 t o)
  unfold gatePieces
  match r with
  | 0 => exact (View.read_writes_cons_unit_of_not_mem v f _ _ _ (ix3 0 t o) rfl 0 (.inl Nat.zero_lt_one)).trans (hit _ _ _ _ rfl rfl rfl)
  | 1 => exact hit _ _ _ _ rfl rfl rfl

end Stores

/-- The activations and the gates, of rows' projections. -/
theorem prologue_acts {sig' : RefSig} {κ : Kind} {sp : Space} (v : View sig' κ sp S2x64x768 .f32) (w : View sig' κ sp S2x64x128 .f32)
    (f : v.ty.Contents (Elt Ideal)) (g : w.ty.Contents (Elt Ideal)) {P : Fin 2 → Mat Ideal 64 896} {x : Fin 2 → Fin 64 → Fin 256 → ℝ}
    {W : Fin 771 → Fin 256 → ℝ} (h : ∀ r, Rep (P r) fun t o => ∑ i, x r t i * wtr W i o) :
    Acts (fun r => inputs W (x r)) v w (v.writes (Elt Ideal) f (actPieces P)) (w.writes (Elt Ideal) g (gatePieces P)) where
  q r t j := by
    refine (act_apply v f P r t j 0 _ (.inl ⟨rfl, rfl⟩) _).trans ((rep_unitRows (rep_silu (rep_sl (h r) 0 0 (by decide))) t j).trans ?_)
    rw [inputs_of]
    have e : (fun i : Fin 256 => act (∑ a, x r ⟨0 + t, by omega⟩ a * wtr W a ⟨0 + i, by omega⟩)) = fun i : Fin 256 => act (fp W (x r t) ⟨i, by omega⟩) :=
      funext fun i => congrArg act ((wtr_sum W _ _ (by simp; omega)).trans (by simp))
    exact congrArg (fun z => ((nrm z j : ℝ) : EReal)) e
  k r t j := by
    refine (act_apply v f P r t j 256 _ (.inr (.inl ⟨rfl, rfl⟩)) _).trans ((rep_unitRows (rep_silu (rep_sl (h r) 0 256 (by decide))) t j).trans ?_)
    rw [inputs_of]
    have e : (fun i : Fin 256 => act (∑ a, x r ⟨0 + t, by omega⟩ a * wtr W a ⟨256 + i, by omega⟩)) = fun i : Fin 256 => act (fp W (x r t) ⟨256 + i, by omega⟩) :=
      funext fun i => congrArg act ((wtr_sum W _ _ (by simp; omega)).trans (by simp))
    exact congrArg (fun z => ((nrm z j : ℝ) : EReal)) e
  v r t j := by
    refine (act_apply v f P r t j 512 _ (.inr (.inr ⟨rfl, rfl⟩)) _).trans ((rep_silu (rep_sl (h r) 0 512 (by decide)) t j).trans ?_)
    rw [inputs_of]
    refine congrArg _ (congrArg act ?_)
    refine (wtr_sum W _ _ (by simp; omega)).trans ?_
    simp
  al r t := by
    refine (gate_apply w g P r t _).trans ((rep_gates (rep_sl (h r) 0 768 (by decide)) t _).trans ?_)
    beta_reduce
    rw [inputs_of, if_neg (by decide), mul_one]
    refine congrArg _ ?_
    refine (congrArg sg (wtr_sum W _ _ (by simp))).trans ?_
    simp [inp]
  th r t := by
    refine (gate_apply w g P r t _).trans ((rep_gates (rep_sl (h r) 0 768 (by decide)) t _).trans ?_)
    beta_reduce
    rw [inputs_of, if_pos (by decide)]
    refine congrArg _ ?_
    refine (congrArg (sg · * tau) (wtr_sum W _ _ (by simp))).trans ?_
    simp [inp]
  et r t := by
    refine (gate_apply w g P r t _).trans ((rep_gates (rep_sl (h r) 0 768 (by decide)) t _).trans ?_)
    beta_reduce
    rw [inputs_of, if_neg (by decide), mul_one]
    refine congrArg _ ?_
    refine (congrArg sg (wtr_sum W _ _ (by simp))).trans ?_
    simp [inp]

section Run

variable (c : Dev nD) (i : grid0.Coords)
  (arg1 : Memref sig .tc .vmem S2x64x256 .f32) (harg1 : arg1.IsWhole) (arg2 : Memref sig .tc .vmem S256x896 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S2x64x1x256 .f32) (harg9 : arg9.IsWhole) (arg10 : Memref sig .tc .vmem S2x64x768 .f32) (harg10 : arg10.IsWhole) (arg11 : Memref sig .tc .vmem S2x64x128 .f32) (harg11 : arg11.IsWhole) (arg12 : Memref sig .tc .vmem S2x256x2048 .f32) (harg12 : arg12.IsWhole) (arg13 : Memref sig .tc .vmem S2x1024x512 .f32) (harg13 : arg13.IsWhole) (arg14 : Memref sig .tc .vmem S2x256x2048 .f32) (harg14 : arg14.IsWhole)
  {x0 : Vec Ideal S2x64x256 .f32} {x1 : Vec Ideal S256x896 .f32} {x2 : Vec Ideal S256x1024 .f32} {x3 : Vec Ideal S256x1024 .f32}
  {x4 : Vec Ideal S256x1024 .f32} {x5 : Vec Ideal S256x1024 .f32} {x6 : Vec Ideal S1024x256 .f32} {x7 : Vec Ideal S1024x256 .f32}
  {x : Fin 2 → Fin 64 → Fin 256 → ℝ} {W : Fin 771 → Fin 256 → ℝ} {w0 p0 : Fin 256 → Fin 1024 → ℝ} {w1 p1 : Fin 1024 → Fin 256 → ℝ}

/-- The two rows' projections. -/
theorem rep_projs (h0 : ∀ r t a, x0 (ix3 r t a) = ((x r t a : ℝ) : EReal)) (h1 : Rep (m := 256) (n := 896) x1 (wtr W)) (r : Fin 2) :
    Rep (projs arg1 harg1 arg2 harg2 x0 x1 r) fun t o => ∑ a, x r t a * wtr W a o := by
  have hw := rep_cast (rep_whole arg2 harg2 inb_S256x896_S256x896_0_0 h1) shapeCasts_S256x896_S256x896
  have hx (q : ℕ) (hq : q < 2) (off : Fin 3 → ℕ) (hoff : off = ![q, 0, 0]) (inb) (t : Fin 64) (a : Fin 256) :
      shapeCast S64x256 (arg1.view.readAt (Elt Ideal) (Rect.unit (s := S2x64x256) off S1x64x256.size inb).toLoadRect (harg1.unread x0)) shapeCasts_S1x64x256_S64x256 (ix2 t a)
        = ((x ⟨q, hq⟩ t a : ℝ) : EReal) := by
    refine (load_apply (R := 2) (n := 64) (p := 256) arg1.view (harg1.unread x0) q 0 0 hoff inb shapeCasts_S1x64x256_S64x256 t a hq (by omega) (by omega)).trans ?_
    rw [harg1.read_unread, h0]
    simp
  match r with
  | 0 => exact rep_mul (hx 0 (by decide) _ rfl _) hw
  | 1 => exact rep_mul (hx 1 (by decide) _ rfl _) hw

/-- The kernel's output block at one grid point: both rows' answers at every time step. -/
theorem out_apply (h0 : ∀ r t a, x0 (ix3 r t a) = ((x r t a : ℝ) : EReal)) (h1 : Rep (m := 256) (n := 896) x1 (wtr W))
    (h2 : Rep (m := 256) (n := 1024) x2 w0) (h3 : Rep (m := 256) (n := 1024) x3 p0)
    (h4 : Rep (m := 256) (n := 1024) x4 fun a d => w1 d a) (h5 : Rep (m := 256) (n := 1024) x5 fun a d => p1 d a)
    (h6 : Rep (m := 1024) (n := 256) x6 w1) (h7 : Rep (m := 1024) (n := 256) x7 p1) (r : Fin 2) (t : Fin 64) (d : Fin 256) :
    Cert.Proof.Launch.out0_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (ix4 r t 0 d)
      = ((ans (traj (1 / 128) (inputs W (x r)) (start w0 p0 w1 p1) (t + 1)) (inputs W (x r) t).q d : ℝ) : EReal) := by
  unfold Cert.Proof.Launch.out0_A_8
  rw [View.read_writes_of_cover _ _ arg9.view arg9.view.junk _ (Cert.Proof.Launch.cover0_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7), run_pieces]
  exact loop_out (X := fun r => inputs W (x r)) (S := fun _ => start w0 p0 w1 p1) _ _ _ _ arg1 harg1 arg2 harg2 arg3 harg3 arg4 harg4 arg5 harg5 arg6 harg6 arg7 harg7 arg8 harg8 arg9 harg9 arg10 harg10 arg11 harg11 arg12 harg12 arg13 harg13 arg14 harg14
    (prologue_acts _ _ _ _ (rep_projs arg1 harg1 arg2 harg2 h0 h1))
    (store_holds rfl _ _ _ _ _ _ _ (rep_addf (rep_whole _ _ _ h2) (rep_whole _ _ _ h3)) (rep_addf (rep_whole _ _ _ h2) (rep_whole _ _ _ h3)) (rep_zeros _ _) (rep_zeros _ _))
    (store_holds rfl _ _ _ _ _ _ _ (rep_addf (rep_whole _ _ _ h6) (rep_whole _ _ _ h7)) (rep_addf (rep_whole _ _ _ h6) (rep_whole _ _ _ h7)) (rep_zeros _ _) (rep_zeros _ _))
    (store_holds rfl _ _ _ _ _ _ _ (rep_addf (rep_cast (rep_whole _ _ _ h4) _) (rep_cast (rep_whole _ _ _ h5) _))
      (rep_addf (rep_cast (rep_whole _ _ _ h4) _) (rep_cast (rep_whole _ _ _ h5) _)) (rep_zeros _ _) (rep_zeros _ _)) r t d

end Run

end Cert.Proof.Chunk

end
-- ==== Proof.Host.lean ====
/-
  What the launch's windows read, over the reals: the arguments' blocks, the transposed weights behind zeros, and the
  transposed second matrices.
-/
module

public import proofs.«01_k».proof.Proof.PrologueValue
public import Idealize.ShloMosaic.Lib.StableHlo.ReadAt
public import Idealize.ShloMosaic.Lib.Routing.OpsPair
public import Idealize.ShloMosaic.Lib.Routing.OpsSet

@[expose] public section

set_option maxRecDepth 16384

noncomputable section

namespace Cert.Proof.Host

open Idealize.ShloMosaic Cert.KernelIdeal Cert.KernelIdeal.Gen Idealize.ShloMosaic.TcCoe
open Cert.Proof.Chunk (wtr Rep)
open Cert.Proof.Memory

/-- An update of three columns at column 0 lands where it stands. -/
theorem lands (idx : IVec S1 32) (hidx : ∀ q, idx q = 0#32) (a : Fin 256) (b : Fin 3) (i : Fin 256) (o : Fin 128) :
    scatter_S256x128_S1_S256x3_01_n_1_0.resultIdx? (ValueIdx.ix2 a b) idx = some (ValueIdx.ix2 i o) ↔ a = i ∧ b.val = o.val := by
  have hs0 : scatter_S256x128_S1_S256x3_01_n_1_0.start (ValueIdx.ix2 a b) idx 0 = 0 := by
    unfold ScatterDims.start
    rw [dif_neg (by decide)]
  have hs1 : scatter_S256x128_S1_S256x3_01_n_1_0.start (ValueIdx.ix2 a b) idx 1 = 0 := by
    unfold ScatterDims.start
    rw [dif_pos (by decide), hidx]; rfl
  have hw0 : scatter_S256x128_S1_S256x3_01_n_1_0.window (ValueIdx.ix2 a b) 0 = a.val := rfl
  have hw1 : scatter_S256x128_S1_S256x3_01_n_1_0.window (ValueIdx.ix2 a b) 1 = b.val := rfl
  refine (Idealize.ShloMosaic.Routing.resultIdx?_ix2 (R := 256) (C := 128) _ _ idx i o).trans ?_
  rw [hs0, hs1, hw0, hw1, Fin.ext_iff]
  omega

/-- Three columns set at column 0. -/
theorem scatter_apply {α : Type} (x : S256x128.Idx → α) (idx : IVec S1 32) (hidx : ∀ q, idx q = 0#32) (u : S256x3.Idx → α) (i : Fin 256) (o : Fin 128) :
    Host.scatter scatter_S256x128_S1_S256x3_01_n_1_0 (fun _ b => b) x idx u (ix2 i o)
      = if h : o.val < 3 then u (ix2 i ⟨o, h⟩) else x (ix2 i o) := by
  have eq (k : S256x3.Idx) : k = ValueIdx.ix2 (k 0) (k 1) := ValueIdx.eq_ix2 k
  by_cases h : o.val < 3
  · rw [dif_pos h]
    refine Idealize.ShloMosaic.Routing.scatter_set_hit _ x idx u _ _ (fun k hk => ?_) (ValueIdx.ix2 i ⟨o, h⟩) ((lands idx hidx _ _ i o).2 ⟨rfl, rfl⟩)
    rw [eq k] at hk ⊢
    obtain ⟨h0, h1⟩ := (lands idx hidx _ _ i o).1 hk
    rw [h0, show k 1 = ⟨o, h⟩ from Fin.ext h1]; rfl
  · rw [dif_neg h]
    refine Idealize.ShloMosaic.Routing.scatter_set_miss _ x idx u _ fun k hk => h ?_
    rw [eq k] at hk
    exact ((lands idx hidx _ _ i o).1 hk).2 ▸ (k 1).isLt

variable (m : (ℓ : Loc nD τ sig) → Buf (Elt Ideal) ℓ) (c : Dev nD)

/-- The fused weights, transposed and padded, as the kernel gets them. -/
theorem V_wt {W : Fin 771 → Fin 256 → ℝ} (h : ∀ o i, m ((c : Thread nD τ).loc main_arg1) (ix2 o i) = ((W o i : ℝ) : EReal)) :
    ∀ i o, V m c main_call0_v7 (ix2 i o) = ((wtr W i o : ℝ) : EReal) := fun i o => by
  unfold V
  after_reads_simp
  refine (concatenate_pair_apply (t := S256x896) 1 _ _ concatenates_S256x768_S256x128_S256x896_d1 (ix2 i o)).trans ?_
  by_cases ho : o.val < 768
  · refine (dif_pos ho).trans ?_
    after_reads_simp
    simp -implicitDefEqProofs only [StableHlo.TRef.toBuf, StableHlo.TRef.ofBuf, cast_eq]
    refine (congrArg _ (show _ = ix2 i ⟨o, ho⟩ from funext fun d => Fin.ext (by match d with | 0 => rfl | 1 => rfl))).trans ?_
    rw [wtr, dif_pos (by omega : o.val < 771)]
    pointwise
    exact h ⟨o, by omega⟩ i
  · refine (dif_neg ho).trans ?_
    after_reads_simp
    simp -implicitDefEqProofs only [StableHlo.TRef.toBuf, StableHlo.TRef.ofBuf, cast_eq]
    refine (congrArg _ (show _ = ix2 i ⟨o - 768, by omega⟩ from funext fun d => Fin.ext (by match d with | 0 => rfl | 1 => rfl))).trans ?_
    refine (scatter_apply _ _ (fun _ => rfl) _ i ⟨o - 768, by omega⟩).trans ?_
    by_cases h3 : o.val - 768 < 3
    · refine (dif_pos h3).trans ?_
      rw [wtr, dif_pos (by omega : o.val < 771)]
      pointwise
      exact (h _ i).trans (congrArg (fun q => ((W q i : ℝ) : EReal)) (Fin.ext (by show 768 + (o.val - 768) = o.val; omega)))
    · refine (dif_neg h3).trans ?_
      rw [wtr, dif_neg (by omega)]
      pointwise
      exact EReal.coe_zero.symm

/-- The second layer's weights, transposed. -/
theorem V_w1t {w : Fin 1024 → Fin 256 → ℝ} (h : ∀ o i, m ((c : Thread nD τ).loc main_arg3) (ix2 o i) = ((w o i : ℝ) : EReal)) :
    ∀ i o, V m c main_call0_v8 (ix2 i o) = ((w o i : ℝ) : EReal) := fun i o => by
  unfold V
  after_reads_at
  exact h o i

/-- The second layer's projections, transposed. -/
theorem V_p1t {w : Fin 1024 → Fin 256 → ℝ} (h : ∀ o i, m ((c : Thread nD τ).loc main_arg5) (ix2 o i) = ((w o i : ℝ) : EReal)) :
    ∀ i o, V m c main_call0_v9 (ix2 i o) = ((w o i : ℝ) : EReal) := fun i o => by
  unfold V
  after_reads_at
  exact h o i

/-! The blocks. -/

/-- An index is its coordinates. -/
theorem idx_eq {n k : ℕ} {f g : (⟨2, ![n, k]⟩ : Shape).Idx} (h0 : (f 0).val = 0 * n + 1 * (g 0).val) (h1 : (f 1).val = 0 * k + 1 * (g 1).val) : f = g :=
  funext fun a => Fin.ext (match a with | ⟨0, _⟩ => h0.trans (by rw [Nat.zero_mul, Nat.zero_add, Nat.one_mul]; rfl) | ⟨1, _⟩ => h1.trans (by rw [Nat.zero_mul, Nat.zero_add, Nat.one_mul]; rfl))

/-- A window of the whole array reads the array. -/
theorem blk_whole (t : Fin cfg0.N) :
    iblk m c 1 t = V m c main_call0_v7 ∧ iblk m c 2 t = V m c main_arg2 ∧ iblk m c 3 t = V m c main_arg4 ∧ iblk m c 4 t = V m c main_call0_v8
      ∧ iblk m c 5 t = V m c main_call0_v9 ∧ iblk m c 6 t = V m c main_arg3 ∧ iblk m c 7 t = V m c main_arg5 :=
  ⟨funext fun _ => congrArg (V m c main_call0_v7) (idx_eq rfl rfl), funext fun _ => congrArg (V m c main_arg2) (idx_eq rfl rfl),
    funext fun _ => congrArg (V m c main_arg4) (idx_eq rfl rfl), funext fun _ => congrArg (V m c main_call0_v8) (idx_eq rfl rfl),
    funext fun _ => congrArg (V m c main_call0_v9) (idx_eq rfl rfl), funext fun _ => congrArg (V m c main_arg3) (idx_eq rfl rfl),
    funext fun _ => congrArg (V m c main_arg5) (idx_eq rfl rfl)⟩

/-- There are two blocks. -/
theorem lt_two (t : Fin cfg0.N) : t.val < 2 := lt_of_lt_of_eq t.isLt N_0

/-- The grid point's coordinate. -/
theorem index0 (t : Fin cfg0.N) : (cfg0.win 0).index t 0 = t.val ∧ (cfg0.win 0).index t 1 = 0 ∧ (cfg0.win 0).index t 2 = 0 := by
  rcases fin_N0 t with rfl | rfl <;> decide

/-- Where the result's blocks lie. -/
theorem index8 (t : Fin cfg0.N) : (cfg0.win 8).index t 0 = t.val ∧ (cfg0.win 8).index t 1 = 0 ∧ (cfg0.win 8).index t 2 = 0 ∧ (cfg0.win 8).index t 3 = 0 := by
  rcases fin_N0 t with rfl | rfl <;> decide

/-- Two rows of the argument `x`. -/
theorem blk_x (t : Fin cfg0.N) (r : Fin 2) (s : Fin 64) (i : Fin 256) :
    (iblk m c 0 t : Vec Ideal S2x64x256 .f32) (ix3 r s i) = V m c main_arg0 (ix3 ⟨t.val * 2 + r, by have := lt_two t; omega⟩ s i) := by
  obtain ⟨h0, h1, h2⟩ := index0 t
  refine congrArg (V m c main_arg0) (funext fun a => Fin.ext ?_)
  match a with
  | ⟨0, _⟩ => show (cfg0.win 0).index t 0 * 2 + 1 * r.val = t.val * 2 + r.val; rw [h0, Nat.one_mul]
  | ⟨1, _⟩ => show (cfg0.win 0).index t 1 * 64 + 1 * s.val = s.val; rw [h1]; omega
  | ⟨2, _⟩ => show (cfg0.win 0).index t 2 * 256 + 1 * i.val = i.val; rw [h2]; omega

/-- An entry of the final array, of the block the grid point of its row wrote. -/
theorem final_apply (t : Fin cfg0.N) (r : Fin 2) (s : Fin 64) (i : Fin 256) :
    (Cert.Proof.Launch.dats m 0 c).arrAt 8 cfg0.N (ix4 ⟨t.val * 2 + r, by have := lt_two t; omega⟩ s 0 i)
      = Cert.Proof.Launch.outsAt0 m c t (ix4 r s 0 i) := by
  obtain ⟨h0, h1, h2, h3⟩ := index8 t
  have e := congrFun (Cert.Proof.Launch.blocks8 m c t (flush0_8 t)) (ix4 r s 0 i : S2x64x1x256.Idx)
  rw [Cert.Proof.Launch.flushed8] at e
  refine Eq.trans (congrArg _ (funext fun a => Fin.ext ?_)) e
  match a with
  | ⟨0, _⟩ => show t.val * 2 + r.val = (cfg0.win 8).index t 0 * 2 + 1 * r.val; rw [h0, Nat.one_mul]
  | ⟨1, _⟩ => show s.val = (cfg0.win 8).index t 1 * 64 + 1 * s.val; rw [h1]; omega
  | ⟨2, _⟩ => show 0 = (cfg0.win 8).index t 2 * 1 + 1 * 0; rw [h2]
  | ⟨3, _⟩ => show i.val = (cfg0.win 8).index t 3 * 256 + 1 * i.val; rw [h3]; omega

/-- The kernel's result: the answers of every row of the batch at every time step. -/
theorem final_ans {x : Fin 4 → Fin 64 → Fin 256 → ℝ} {W : Fin 771 → Fin 256 → ℝ} {w0 p0 : Fin 256 → Fin 1024 → ℝ} {w1 p1 : Fin 1024 → Fin 256 → ℝ}
    (hx : ∀ b t i, m ((c : Thread nD τ).loc main_arg0) (ix3 b t i) = ((x b t i : ℝ) : EReal))
    (hW : ∀ o i, m ((c : Thread nD τ).loc main_arg1) (ix2 o i) = ((W o i : ℝ) : EReal))
    (hw0 : ∀ i d, m ((c : Thread nD τ).loc main_arg2) (ix2 i d) = ((w0 i d : ℝ) : EReal))
    (hw1 : ∀ d i, m ((c : Thread nD τ).loc main_arg3) (ix2 d i) = ((w1 d i : ℝ) : EReal))
    (hp0 : ∀ i d, m ((c : Thread nD τ).loc main_arg4) (ix2 i d) = ((p0 i d : ℝ) : EReal))
    (hp1 : ∀ d i, m ((c : Thread nD τ).loc main_arg5) (ix2 d i) = ((p1 d i : ℝ) : EReal))
    (b : Fin 4) (t : Fin 64) (z : Fin 1) (i : Fin 256) :
    (Cert.Proof.Launch.dats m 0 c).arrAt 8 cfg0.N (ix4 b t z i)
      = ((ans (traj (1 / 128) (inputs W (x b)) (start w0 p0 w1 p1) (t + 1)) (inputs W (x b) t).q i : ℝ) : EReal) := by
  have hb := b.isLt
  obtain ⟨p, hp⟩ : ∃ p : Fin cfg0.N, p.val = b.val / 2 := ⟨⟨b.val / 2, lt_of_lt_of_eq (by omega) N_0.symm⟩, rfl⟩
  obtain ⟨r, hr⟩ : ∃ r : Fin 2, r.val = b.val % 2 := ⟨⟨b.val % 2, by omega⟩, rfl⟩
  have hbr : b = ⟨p.val * 2 + r, by omega⟩ := Fin.ext (by show b.val = p.val * 2 + r.val; omega)
  obtain rfl : z = 0 := Subsingleton.elim _ _
  rw [hbr]
  refine (final_apply m c p r t i).trans ?_
  obtain ⟨h1, h2, h3, h4, h5, h6, h7⟩ := blk_whole m c p
  unfold Cert.Proof.Launch.outsAt0
  refine Cert.Proof.Chunk.out_apply (x := fun r => x ⟨p.val * 2 + r, by have := lt_two p; omega⟩) (W := W) (w0 := w0) (p0 := p0) (w1 := w1) (p1 := p1)
    c _ _ _ _ _ _ _ _ _ _ _ _ _ _ _ _ _ _ _ _ _ _ _ _ _ _ _ _ _ ?_ ?_ ?_ ?_ ?_ ?_ ?_ ?_ r t i
  · intro r s a
    refine (blk_x m c p r s a).trans ?_
    rw [V_main_arg0]; exact hx _ _ _
  · intro a o; rw [h1]; exact V_wt m c hW a o
  · intro a o; rw [h2, V_main_arg2]; exact hw0 a o
  · intro a o; rw [h3, V_main_arg4]; exact hp0 a o
  · intro a o; rw [h4]; exact V_w1t m c hw1 a o
  · intro a o; rw [h5]; exact V_p1t m c hp1 a o
  · intro a o; rw [h6, V_main_arg3]; exact hw1 a o
  · intro a o; rw [h7, V_main_arg5]; exact hp1 a o

end Cert.Proof.Host

end
-- ==== Proof.RefStep.lean ====
/-
  One trip of the reference's loop on an ideal state whose arrays hold reals: every batch row's four matrices and four
  momenta, added up in pairs, take one step of the memory network, and the trip's answers join the output.
-/
module

public import proofs.«01_k».proof.Proof.Gen.ReferenceIdeal.Step
public import proofs.«01_k».proof.Proof.Memory
public import proofs.«01_k».proof.Proof.Rep
public import Idealize.ShloMosaic.Lib.Pointwise
public import Idealize.ShloMosaic.Lib.DynamicIndex

@[expose] public section

noncomputable section

namespace Cert.Proof.RefStep

open Idealize.ShloMosaic Cert.ReferenceIdeal Cert.ReferenceIdeal.Step Finset Cert.Proof.Memory
open Cert.Proof.Chunk (coe_sum)

variable {j : ℕ} {s : State Ideal} {X : Fin 4 → Inp (Fin 256)} {w0 p0 m0 n0 : Fin 4 → Fin 256 → Fin 1024 → ℝ}
  {w1 p1 m1 n1 : Fin 4 → Fin 1024 → Fin 256 → ℝ}

/-- The trip's inputs and the matrices it starts from are these reals. -/
structure Reads (j : ℕ) (s : State Ideal) (X : Fin 4 → Inp (Fin 256)) (w0 p0 m0 n0 : Fin 4 → Fin 256 → Fin 1024 → ℝ)
    (w1 p1 m1 n1 : Fin 4 → Fin 1024 → Fin 256 → ℝ) : Prop where
  k : ∀ b i, b3 j s (ix2 b i) = (((X b).k i : ℝ) : EReal)
  v : ∀ b i, b7 j s (ix2 b i) = (((X b).v i : ℝ) : EReal)
  q : ∀ b i, b11 j s (ix2 b i) = (((X b).q i : ℝ) : EReal)
  al : ∀ b, b15 j s (ix2 b 0) = ((1 - (X b).keep : ℝ) : EReal)
  th : ∀ b, b19 j s (ix2 b 0) = (((X b).c / 2 : ℝ) : EReal)
  et : ∀ b, b23 j s (ix2 b 0) = (((X b).e : ℝ) : EReal)
  w0 : ∀ b i d, s.main_v60_7 (ix3 b i d) = ((w0 b i d : ℝ) : EReal)
  w1 : ∀ b d i, s.main_v60_8 (ix3 b d i) = ((w1 b d i : ℝ) : EReal)
  p0 : ∀ b i d, s.main_v60_9 (ix3 b i d) = ((p0 b i d : ℝ) : EReal)
  p1 : ∀ b d i, s.main_v60_10 (ix3 b d i) = ((p1 b d i : ℝ) : EReal)
  m0 : ∀ b i d, s.main_v60_11 (ix3 b i d) = ((m0 b i d : ℝ) : EReal)
  m1 : ∀ b d i, s.main_v60_12 (ix3 b d i) = ((m1 b d i : ℝ) : EReal)
  n0 : ∀ b i d, s.main_v60_13 (ix3 b i d) = ((n0 b i d : ℝ) : EReal)
  n1 : ∀ b d i, s.main_v60_14 (ix3 b d i) = ((n1 b d i : ℝ) : EReal)

/-- The matrices and the momenta, added up in pairs. -/
def pairs (w0 p0 m0 n0 : Fin 4 → Fin 256 → Fin 1024 → ℝ) (w1 p1 m1 n1 : Fin 4 → Fin 1024 → Fin 256 → ℝ) (b : Fin 4) :
    St (Fin 256) (Fin 1024) where
  A i d := w0 b i d + p0 b i d
  MA i d := m0 b i d + n0 b i d
  B d i := w1 b d i + p1 b d i
  MB d i := m1 b d i + n1 b d i

/-- The reference's logistic function. -/
theorem logistic (x : ℝ) : Ideal.div 1 (1 + Ideal.exp (-(x : EReal))) = ((sg x : ℝ) : EReal) := by
  rw [← EReal.coe_neg, Ideal.exp_coe, ← EReal.coe_one, ← EReal.coe_add, Ideal.div_coe (by positivity), ← EReal.coe_mul]
  congr 1; simp [sg]

/-- The literals of the mean squared error. -/
theorem lit_256 : Ideal.ofBits .f32 1132462080#32 = ((256 : ℝ) : EReal) := by
  norm_num [Ideal.ofBits, Ideal.ieee, Nat.shiftRight_eq_div_pow, BitVec.extractLsb'_eq_extractLsb]

/-- Two, as its word. -/
theorem lit_2 : Ideal.ofBits .f32 1073741824#32 = ((2 : ℝ) : EReal) := by
  norm_num [Ideal.ofBits, Ideal.ieee, Nat.shiftRight_eq_div_pow, BitVec.extractLsb'_eq_extractLsb]

variable (H : Reads j s X w0 p0 m0 n0 w1 p1 m1 n1)
include H

/-- The key through the first layer. -/
theorem r27 (b z d) : b27 j s (ix3 b z d) = ((vm (X b).k (pairs w0 p0 m0 n0 w1 p1 m1 n1 b).A d : ℝ) : EReal) := by
  pointwise [b27, b26, b25, b24]
  simp only [H.k, H.w0, H.p0, ← EReal.coe_mul, ← coe_sum, ← EReal.coe_add]
  simp only [vm, pairs, mul_add, sum_add_distrib]

/-- Its logistic. -/
theorem r35 (b z d) : b35 j s (ix3 b z d) = ((sg (vm (X b).k (pairs w0 p0 m0 n0 w1 p1 m1 n1 b).A d) : ℝ) : EReal) := by
  pointwise [b35, b34, b33, b32, b31, b30, b29, b28]
  rw [r27 H, logistic]

/-- Its activation, the hidden row. -/
theorem r40 (b z d) : b40 j s (ix3 b z d) = ((hid (pairs w0 p0 m0 n0 w1 p1 m1 n1 b) (X b) d : ℝ) : EReal) := by
  pointwise [b40]
  rw [r27 H, r35 H, ← EReal.coe_mul]; rfl

/-- The gradient at the prediction. -/
theorem r62 (b z i) : b62 j s (ix3 b z i) = ((dpr (1 / 128) (pairs w0 p0 m0 n0 w1 p1 m1 n1 b) (X b) i : ℝ) : EReal) := by
  pointwise [b62, b61, b60, b59, b58, b57, b56, b55, b49, b48, b47, b45, b44, b43, b42, b41]
  simp only [r40 H, H.w1, H.p1, H.v, lit_256, lit_2, Ideal.div_coe (show (256 : ℝ) ≠ 0 by norm_num), one_mul,
    ← EReal.coe_mul, ← coe_sum, ← EReal.coe_add, ← EReal.coe_sub]
  refine congrArg _ ?_
  simp only [dpr, vm, pairs, mul_add, sum_add_distrib]
  ring

/-- The gradient at the hidden row. -/
theorem r69 (b z d) : b69 j s (ix3 b z d) = ((∑ i, dpr (1 / 128) (pairs w0 p0 m0 n0 w1 p1 m1 n1 b) (X b) i * (pairs w0 p0 m0 n0 w1 p1 m1 n1 b).B d i : ℝ) : EReal) := by
  pointwise [b69, b68, b65]
  simp only [r62 H, H.w1, H.p1, ← EReal.coe_mul, ← coe_sum, ← EReal.coe_add]
  refine congrArg _ ?_
  simp only [pairs, mul_add, sum_add_distrib]
  rw [add_comm]

/-- The gradient before the activation. -/
theorem r73 (b z d) : b73 j s (ix3 b z d) = ((dpre (1 / 128) (pairs w0 p0 m0 n0 w1 p1 m1 n1 b) (X b) d : ℝ) : EReal) := by
  pointwise [b73, b72, b71, b70, b39, b38, b37, b36]
  rw [r69 H, r35 H, r27 H, ← EReal.coe_one]
  simp only [← EReal.coe_mul, ← EReal.coe_add, ← EReal.coe_sub]
  refine congrArg _ ?_
  simp only [dpre, dact]
  ring

/-- The first matrices' momenta after the trip. -/
theorem r84 (b i d) : b84 j s (ix3 b i d)
    = ((m0 b i d * (X b).e - (X b).c / 2 * (dpre (1 / 128) (pairs w0 p0 m0 n0 w1 p1 m1 n1 b) (X b) d * (X b).k i) : ℝ) : EReal) := by
  pointwise [b84, b83, b82, b81, b80, b79, b78, b77, b76, b24]
  simp only [r73 H, H.m0, H.k, H.th, H.et, ← EReal.coe_mul, ← EReal.coe_sub, univ_unique, sum_singleton]

/-- The momentum of the first layer's projections. -/
theorem r98 (b i d) : b98 j s (ix3 b i d)
    = ((n0 b i d * (X b).e - (X b).c / 2 * (dpre (1 / 128) (pairs w0 p0 m0 n0 w1 p1 m1 n1 b) (X b) d * (X b).k i) : ℝ) : EReal) := by
  pointwise [b98, b97, b96, b95, b94, b93, b92, b75, b74, b24]
  simp only [r73 H, H.n0, H.k, H.th, H.et, ← EReal.coe_mul, ← EReal.coe_sub, univ_unique, sum_singleton]

/-- The second matrices' momenta after the trip. -/
theorem r91 (b d i) : b91 j s (ix3 b d i)
    = ((m1 b d i * (X b).e - (X b).c / 2 * (dpr (1 / 128) (pairs w0 p0 m0 n0 w1 p1 m1 n1 b) (X b) i * hid (pairs w0 p0 m0 n0 w1 p1 m1 n1 b) (X b) d) : ℝ) : EReal) := by
  pointwise [b91, b90, b89, b88, b87, b86, b85, b67, b66]
  simp only [r62 H, r40 H, H.m1, H.th, H.et, ← EReal.coe_mul, ← EReal.coe_sub, univ_unique, sum_singleton]

/-- The momentum of the second layer's projections. -/
theorem r105 (b d i) : b105 j s (ix3 b d i)
    = ((n1 b d i * (X b).e - (X b).c / 2 * (dpr (1 / 128) (pairs w0 p0 m0 n0 w1 p1 m1 n1 b) (X b) i * hid (pairs w0 p0 m0 n0 w1 p1 m1 n1 b) (X b) d) : ℝ) : EReal) := by
  pointwise [b105, b104, b103, b102, b101, b100, b99, b64, b63]
  simp only [r62 H, r40 H, H.n1, H.th, H.et, ← EReal.coe_mul, ← EReal.coe_sub, univ_unique, sum_singleton]

/-- The matrices after the trip. -/
theorem r112 (b i d) : b112 j s (ix3 b i d) = ((w0 b i d * (X b).keep
    + (m0 b i d * (X b).e - (X b).c / 2 * (dpre (1 / 128) (pairs w0 p0 m0 n0 w1 p1 m1 n1 b) (X b) d * (X b).k i)) : ℝ) : EReal) := by
  pointwise [b112, b111, b110, b109, b108, b107, b106]
  rw [r84 H, H.w0, H.al, ← EReal.coe_one, ← EReal.coe_sub, ← EReal.coe_mul, ← EReal.coe_add, sub_sub_cancel]

/-- The first layer's projections after the step. -/
theorem r126 (b i d) : b126 j s (ix3 b i d) = ((p0 b i d * (X b).keep
    + (n0 b i d * (X b).e - (X b).c / 2 * (dpre (1 / 128) (pairs w0 p0 m0 n0 w1 p1 m1 n1 b) (X b) d * (X b).k i)) : ℝ) : EReal) := by
  pointwise [b126, b125, b124, b123, b122, b121, b120]
  rw [r98 H, H.p0, H.al, ← EReal.coe_one, ← EReal.coe_sub, ← EReal.coe_mul, ← EReal.coe_add, sub_sub_cancel]

/-- The second layer's weights after the step. -/
theorem r119 (b d i) : b119 j s (ix3 b d i) = ((w1 b d i * (X b).keep
    + (m1 b d i * (X b).e - (X b).c / 2 * (dpr (1 / 128) (pairs w0 p0 m0 n0 w1 p1 m1 n1 b) (X b) i * hid (pairs w0 p0 m0 n0 w1 p1 m1 n1 b) (X b) d)) : ℝ) : EReal) := by
  pointwise [b119, b118, b117, b116, b115, b114, b113]
  rw [r91 H, H.w1, H.al, ← EReal.coe_one, ← EReal.coe_sub, ← EReal.coe_mul, ← EReal.coe_add, sub_sub_cancel]

/-- The second layer's projections after the step. -/
theorem r133 (b d i) : b133 j s (ix3 b d i) = ((p1 b d i * (X b).keep
    + (n1 b d i * (X b).e - (X b).c / 2 * (dpr (1 / 128) (pairs w0 p0 m0 n0 w1 p1 m1 n1 b) (X b) i * hid (pairs w0 p0 m0 n0 w1 p1 m1 n1 b) (X b) d)) : ℝ) : EReal) := by
  pointwise [b133, b132, b131, b130, b129, b128, b127]
  rw [r105 H, H.p1, H.al, ← EReal.coe_one, ← EReal.coe_sub, ← EReal.coe_mul, ← EReal.coe_add, sub_sub_cancel]

/-- The query through the first matrices after the trip. -/
theorem r136 (b d) : b136 j s (ix2 b d) = ((vm (X b).q (next (1 / 128) (pairs w0 p0 m0 n0 w1 p1 m1 n1 b) (X b)).A d : ℝ) : EReal) := by
  pointwise [b136, b135, b134]
  simp only [H.q, r112 H, r126 H, ← EReal.coe_mul, ← coe_sum, ← EReal.coe_add]
  refine congrArg _ ?_
  simp only [vm, next, ← sum_add_distrib]
  exact sum_congr rfl fun i _ => by simp only [pairs]; ring

/-- The answer's hidden row. -/
theorem r145 (b d) : b145 j s (ix2 b d) = ((act (vm (X b).q (next (1 / 128) (pairs w0 p0 m0 n0 w1 p1 m1 n1 b) (X b)).A d) : ℝ) : EReal) := by
  pointwise [b145, b144, b143, b142, b141, b140, b139, b138, b137]
  rw [r136 H, logistic, ← EReal.coe_mul]; rfl

/-- The trip's answers. -/
theorem r148 (b i) : b148 j s (ix2 b i) = ((ans (next (1 / 128) (pairs w0 p0 m0 n0 w1 p1 m1 n1 b) (X b)) (X b).q i : ℝ) : EReal) := by
  pointwise [b148, b147, b146]
  simp only [r145 H, r119 H, r133 H, ← EReal.coe_mul, ← coe_sum, ← EReal.coe_add]
  refine congrArg _ ?_
  simp only [ans]
  conv_rhs => rw [vm]
  rw [← sum_add_distrib]
  exact sum_congr rfl fun d _ => by simp only [next, pairs]; ring

end Cert.Proof.RefStep

end
-- ==== Proof.RefLoop.lean ====
/-
  The reference's loop on real inputs: after `n` trips the state holds, for every batch row, the state of the row's
  trajectory after `n` steps, and the output's first `n` rows are the answers of those steps.
-/
module

public import proofs.«01_k».proof.Proof.RefStep
public import Idealize.ShloMosaic.Lib.ValueLayout
public import Idealize.ShloMosaic.Lib.Pipeline.Value

@[expose] public section

noncomputable section

namespace Cert.Proof.RefStep

open Idealize.ShloMosaic Cert.ReferenceIdeal Cert.ReferenceIdeal.Step Cert.ReferenceIdeal.Gen Finset Cert.Proof.Memory

/-- A trip's row of an array of the time steps. -/
theorem row_slice {w n : ℕ} (x : (⟨3, ![64, 4, w]⟩ : Shape).Idx → EReal) (hn : n < 64) (start : Fin 3 → Int)
    (h : (⟨3, ![64, 4, w]⟩ : Shape).Slices (fun _ => 0) ⟨3, ![1, 4, w]⟩)
    (h' : (⟨3, ![1, 4, w]⟩ : Shape).ShapeCasts ⟨2, ![4, w]⟩) (hs : ∀ a, start a = ((![n, 0, 0] a : ℕ) : Int)) (b : Fin 4) (i : Fin w) :
    shapeCast ⟨2, ![4, w]⟩ (Host.dynamicSlice ⟨3, ![1, 4, w]⟩ x start h) h' (ix2 b i) = x (ix3 ⟨n, hn⟩ b i) := by
  have hoff : (⟨3, ![64, 4, w]⟩ : Shape).Slices ![n, 0, 0] ⟨3, ![1, 4, w]⟩ := ⟨rfl, fun a => match a with
    | 0 => hn
    | 1 => (Nat.zero_add 4).le
    | 2 => (Nat.zero_add w).le⟩
  rw [Host.dynamicSlice_eq_extractStridedSlice _ x start _ h hoff hs]
  exact (ValueIdx.shapeCast_1ab_ab_apply _ h' b i).trans (congrArg x (funext fun a => match a with
    | 0 => rfl | 1 => Fin.ext (Nat.zero_add _) | 2 => Fin.ext (Nat.zero_add _)))

/-- Storing a trip's row into the output. -/
theorem row_update {n : ℕ} (x : S64x4x256.Idx → EReal) (u : S1x4x256.Idx → EReal) (hn : n < 64) (start : Fin 3 → Int)
    (h : S64x4x256.Slices (fun _ => 0) S1x4x256) (hs : ∀ a, start a = ((![n, 0, 0] a : ℕ) : Int)) (t : Fin 64) (b : Fin 4) (i : Fin 256) :
    Host.dynamicUpdateSlice x u start h (ix3 t b i) = if t.val = n then u (ix3 0 b i) else x (ix3 t b i) := by
  have hoff : S64x4x256.Slices ![n, 0, 0] S1x4x256 := ⟨rfl, fun a => match a with
    | 0 => hn
    | 1 => (Nat.zero_add 4).le
    | 2 => (Nat.zero_add 256).le⟩
  rw [Host.dynamicUpdateSlice_eq_updateSlice x u start h ![n, 0, 0] (fun a => by have := hoff.2 a; rw [hs a]; omega) hoff]
  by_cases e : t.val = n
  · refine (dif_pos fun a => ?_).trans ?_
    · match a with
      | 0 => exact ⟨e.ge, by show t.val < n + 1; omega⟩
      | 1 => exact ⟨Nat.zero_le _, by show b.val < 0 + 4; omega⟩
      | 2 => exact ⟨Nat.zero_le _, by show i.val < 0 + 256; omega⟩
    · rw [if_pos e]
      exact congrArg u (funext fun a => match a with
        | 0 => Fin.ext (by show t.val - n = 0; omega) | 1 => rfl | 2 => rfl)
  · rw [if_neg e]
    exact dif_neg fun hin => e (by have : n ≤ t.val ∧ t.val < n + 1 := hin 0; omega)

/-- A trip's starts. -/
theorem start_eq (n : ℕ) (hn : n < 64) (a : Fin 3) :
    (((![(constantI S_ 32 (BitVec.ofNat 32 n)), constantI S_ 32 0#32, constantI S_ 32 0#32] : Fin 3 → (⟨S_, .i32⟩ : BufTy).Contents (Elt Ideal))) a
      (Shape.Idx.first h_S_)).toInt = ((![n, 0, 0] a : ℕ) : Int) := by
  match a with
  | 0 => exact toInt_ofNat_of_lt (by omega)
  | 1 => rfl
  | 2 => rfl

/-- What the state holds after `n` trips. -/
structure Loop (X : Fin 4 → ℕ → Inp (Fin 256)) (S : Fin 4 → St (Fin 256) (Fin 1024)) (n : ℕ) (s : State Ideal) : Prop where
  k : ∀ (t : Fin 64) b i, s.main_v60_0 (ix3 t b i) = (((X b t).k i : ℝ) : EReal)
  v : ∀ (t : Fin 64) b i, s.main_v60_1 (ix3 t b i) = (((X b t).v i : ℝ) : EReal)
  q : ∀ (t : Fin 64) b i, s.main_v60_2 (ix3 t b i) = (((X b t).q i : ℝ) : EReal)
  al : ∀ (t : Fin 64) b, s.main_v60_3 (ix3 t b 0) = ((1 - (X b t).keep : ℝ) : EReal)
  th : ∀ (t : Fin 64) b, s.main_v60_4 (ix3 t b 0) = (((X b t).c / 2 : ℝ) : EReal)
  et : ∀ (t : Fin 64) b, s.main_v60_5 (ix3 t b 0) = (((X b t).e : ℝ) : EReal)
  out : ∀ (t : Fin 64) b i, t.val < n → s.main_v60_15 (ix3 t b i)
    = ((ans (traj (1 / 128) (X b) (S b) (t + 1)) (X b t).q i : ℝ) : EReal)
  mats : ∃ w0 p0 m0 n0 w1 p1 m1 n1,
    (∀ b i d, s.main_v60_7 (ix3 b i d) = ((w0 b i d : ℝ) : EReal)) ∧ (∀ b d i, s.main_v60_8 (ix3 b d i) = ((w1 b d i : ℝ) : EReal)) ∧
    (∀ b i d, s.main_v60_9 (ix3 b i d) = ((p0 b i d : ℝ) : EReal)) ∧ (∀ b d i, s.main_v60_10 (ix3 b d i) = ((p1 b d i : ℝ) : EReal)) ∧
    (∀ b i d, s.main_v60_11 (ix3 b i d) = ((m0 b i d : ℝ) : EReal)) ∧ (∀ b d i, s.main_v60_12 (ix3 b d i) = ((m1 b d i : ℝ) : EReal)) ∧
    (∀ b i d, s.main_v60_13 (ix3 b i d) = ((n0 b i d : ℝ) : EReal)) ∧ (∀ b d i, s.main_v60_14 (ix3 b d i) = ((n1 b d i : ℝ) : EReal)) ∧
    ∀ b, pairs w0 p0 m0 n0 w1 p1 m1 n1 b = traj (1 / 128) (X b) (S b) n

variable {X : Fin 4 → ℕ → Inp (Fin 256)} {S : Fin 4 → St (Fin 256) (Fin 1024)}

/-- A trip. -/
theorem Loop.step {n : ℕ} {s : State Ideal} (hn : n < 64) (L : Loop X S n s) : Loop X S (n + 1) (step n s) := by
  obtain ⟨w0, p0, m0, n0, w1, p1, m1, n1, h7, h8, h9, h10, h11, h12, h13, h14, e⟩ := L.mats
  have H : Reads n s (fun b => X b n) w0 p0 m0 n0 w1 p1 m1 n1 := {
    k := fun b i => (row_slice _ hn _ _ _ (start_eq n hn) b i).trans (L.k ⟨n, hn⟩ b i)
    v := fun b i => (row_slice _ hn _ _ _ (start_eq n hn) b i).trans (L.v ⟨n, hn⟩ b i)
    q := fun b i => (row_slice _ hn _ _ _ (start_eq n hn) b i).trans (L.q ⟨n, hn⟩ b i)
    al := fun b => (row_slice _ hn _ _ _ (start_eq n hn) b 0).trans (L.al ⟨n, hn⟩ b)
    th := fun b => (row_slice _ hn _ _ _ (start_eq n hn) b 0).trans (L.th ⟨n, hn⟩ b)
    et := fun b => (row_slice _ hn _ _ _ (start_eq n hn) b 0).trans (L.et ⟨n, hn⟩ b)
    w0 := h7, w1 := h8, p0 := h9, p1 := h10, m0 := h11, m1 := h12, n0 := h13, n1 := h14 }
  have next_eq b : next (1 / 128) (pairs w0 p0 m0 n0 w1 p1 m1 n1 b) (X b n) = traj (1 / 128) (X b) (S b) (n + 1) := by rw [e]; rfl
  refine ⟨L.k, L.v, L.q, L.al, L.th, L.et, fun t b i ht => ?_,
    _, _, _, _, _, _, _, _, r112 H, r119 H, r126 H, r133 H, r84 H, r91 H, r98 H, r105 H, fun b => ?_⟩
  · refine (row_update _ _ hn _ updateFits_S64x4x256_S1x4x256 (start_eq n hn) t b i).trans ?_
    split
    · next h =>
      refine (show b149 n s (ix3 0 b i) = b148 n s (ix2 b i) by pointwise [b149]).trans ((r148 H b i).trans ?_)
      rw [next_eq, ← h]
    · exact L.out t b i (by omega)
  · rw [← next_eq]
    simp only [next, pairs, St.mk.injEq]
    refine ⟨?_, ?_, ?_, ?_⟩ <;> · funext a d; ring

/-- The loop. -/
theorem Loop.run {it : ℕ → State Ideal} (h0 : Loop X S 0 (it 0)) (hs : ∀ n, it (n + 1) = Step.step n (it n)) :
    (n : ℕ) → n ≤ 64 → Loop X S n (it n)
  | 0, _ => h0
  | n + 1, h => by rw [hs]; exact (Loop.run h0 hs n (by omega)).step (by omega)

/-- The result's entries. -/
theorem result_apply {s : State Ideal} (L : Loop X S 64 s) (b : Fin 4) (t : Fin 64) (z : Fin 1) (i : Fin 256) :
    R_main_v62 s (ix4 b t z i) = ((ans (traj (1 / 128) (X b) (S b) (t + 1)) (X b t).q i : ℝ) : EReal) :=
  (show R_main_v62 s (ix4 b t z i) = s.main_v60_15 (ix3 t b i) by pointwise [R_main_v62]).trans (L.out t b i t.isLt)

end Cert.Proof.RefStep

end
-- ==== Proof.RefInit.lean ====
/-
  The state the reference's loop starts from, on real arguments: the time steps' inputs, each batch row's copy of the four
  matrices, and momenta of zero.
-/
module

public import proofs.«01_k».proof.Proof.RefLoop
public import proofs.«01_k».proof.Proof.Activations

@[expose] public section

noncomputable section

namespace Cert.Proof.RefStep

open Idealize.ShloMosaic Cert.ReferenceIdeal Cert.ReferenceIdeal.Step Cert.ReferenceIdeal.Gen Finset Cert.Proof.Memory
open Cert.Proof.Chunk (coe_sum)

variable {a0 : FVec Ideal S4x64x256 .f32} {a1 : FVec Ideal S771x256 .f32} {a2 a4 : FVec Ideal S256x1024 .f32}
  {a3 a5 : FVec Ideal S1024x256 .f32} {x : Fin 4 → Fin 64 → Fin 256 → ℝ} {W : Fin 771 → Fin 256 → ℝ}
  {w0 p0 : Fin 256 → Fin 1024 → ℝ} {w1 p1 : Fin 1024 → Fin 256 → ℝ}

variable (h0 : ∀ b t i, a0 (ix3 b t i) = ((x b t i : ℝ) : EReal)) (h1 : ∀ o i, a1 (ix2 o i) = ((W o i : ℝ) : EReal))

section Inputs
include h0 h1

/-- The fused projection. -/
theorem a1_apply (b t o) : A_main_v1 (F := Ideal) a0 a1 a2 a3 a4 a5 (ix3 b t o) = ((fp W (x b t) o : ℝ) : EReal) := by
  pointwise [A_main_v1, A_main_v0]
  simp only [h0, h1, ← EReal.coe_mul, ← coe_sum]; rfl

/-- The activated query. -/
theorem a8_apply (b t i) : A_main_v8 (F := Ideal) a0 a1 a2 a3 a4 a5 (ix3 b t i) = ((act (fp W (x b t) ⟨i, by omega⟩) : ℝ) : EReal) := by
  pointwise [A_main_v8, A_main_call0_v5, A_main_call0_v3, A_main_call0_v1, A_main_call0_v0, A_main_v2, K_main_call0_v4,
    K_main_call0_v2, K_main_call0_cst, K_main_call0_cst_0]
  simp only [a1_apply h0 h1, logistic, ← EReal.coe_mul]
  rfl

/-- The query. -/
theorem a13_apply (b t i) : A_main_v13 (F := Ideal) a0 a1 a2 a3 a4 a5 (ix3 b t i) = (((inp W (x b t)).q i : ℝ) : EReal) := by
  pointwise [A_main_v13, A_main_v12, A_main_v11, A_main_v9, A_main_call1_v2, A_main_call1_v1, A_main_call1_v0, K_main_v10,
    K_main_cst, K_main_call1_cst]
  simp only [a8_apply h0 h1, ← EReal.coe_mul, ← coe_sum, lit_eps]
  exact nrm_coe (fun i => act (fp W (x b t) ⟨i, by omega⟩)) i

/-- The activated key. -/
theorem a14_apply (b t i) : A_main_v14 (F := Ideal) a0 a1 a2 a3 a4 a5 (ix3 b t i) = ((act (fp W (x b t) ⟨256 + i, by omega⟩) : ℝ) : EReal) := by
  pointwise [A_main_v14, A_main_call2_v5, A_main_call2_v3, A_main_call2_v1, A_main_call2_v0, A_main_v3, K_main_call2_v4,
    K_main_call2_v2, K_main_call2_cst, K_main_call2_cst_0]
  simp only [a1_apply h0 h1, logistic, ← EReal.coe_mul]
  rfl

/-- The key. -/
theorem a19_apply (b t i) : A_main_v19 (F := Ideal) a0 a1 a2 a3 a4 a5 (ix3 b t i) = (((inp W (x b t)).k i : ℝ) : EReal) := by
  pointwise [A_main_v19, A_main_v18, A_main_v17, A_main_v15, A_main_call3_v2, A_main_call3_v1, A_main_call3_v0, K_main_v16,
    K_main_cst_0, K_main_call3_cst]
  simp only [a14_apply h0 h1, ← EReal.coe_mul, ← coe_sum, lit_eps]
  exact nrm_coe (fun i => act (fp W (x b t) ⟨256 + i, by omega⟩)) i

/-- The value. -/
theorem a20_apply (b t i) : A_main_v20 (F := Ideal) a0 a1 a2 a3 a4 a5 (ix3 b t i) = ((act (fp W (x b t) ⟨512 + i, by omega⟩) : ℝ) : EReal) := by
  pointwise [A_main_v20, A_main_call4_v5, A_main_call4_v3, A_main_call4_v1, A_main_call4_v0, A_main_v4, K_main_call4_v4,
    K_main_call4_v2, K_main_call4_cst, K_main_call4_cst_0]
  simp only [a1_apply h0 h1, logistic, ← EReal.coe_mul]
  rfl

/-- The forgetting gate. -/
theorem a26_apply (b t z) : A_main_v26 (F := Ideal) a0 a1 a2 a3 a4 a5 (ix3 b t z) = ((1 - (inp W (x b t)).keep : ℝ) : EReal) := by
  pointwise [A_main_v26, A_main_v24, A_main_v22, A_main_v21, A_main_v5, K_main_v23, K_main_v25, K_main_cst_1, K_main_cst_2]
  rw [a1_apply h0 h1, logistic]; exact congrArg _ (sub_sub_cancel _ _).symm

/-- The learning rate. -/
theorem a34_apply (b t z) : A_main_v34 (F := Ideal) a0 a1 a2 a3 a4 a5 (ix3 b t z) = (((inp W (x b t)).c / 2 : ℝ) : EReal) := by
  pointwise [A_main_v34, K_main_v33, K_main_cst_5, A_main_v32, A_main_v30, A_main_v28, A_main_v27, A_main_v6, K_main_v29, K_main_v31, K_main_cst_3, K_main_cst_4]
  rw [a1_apply h0 h1, logistic, lit_tau, ← EReal.coe_mul]; exact congrArg _ (mul_div_cancel_left₀ _ two_ne_zero).symm

/-- The momentum's gate. -/
theorem a40_apply (b t z) : A_main_v40 (F := Ideal) a0 a1 a2 a3 a4 a5 (ix3 b t z) = (((inp W (x b t)).e : ℝ) : EReal) := by
  pointwise [A_main_v40, A_main_v38, A_main_v36, A_main_v35, A_main_v7, K_main_v37, K_main_v39, K_main_cst_6, K_main_cst_7]
  rw [a1_apply h0 h1, logistic]; rfl

end Inputs

include h0 h1 in
/-- The loop's first state. -/
theorem loop_init (h2 : ∀ i d, a2 (ix2 i d) = ((w0 i d : ℝ) : EReal)) (h3 : ∀ d i, a3 (ix2 d i) = ((w1 d i : ℝ) : EReal))
    (h4 : ∀ i d, a4 (ix2 i d) = ((p0 i d : ℝ) : EReal)) (h5 : ∀ d i, a5 (ix2 d i) = ((p1 d i : ℝ) : EReal)) :
    Loop (fun b => inputs W (x b)) (fun _ => start w0 p0 w1 p1) 0 (init a0 a1 a2 a3 a4 a5) where
  k t b i := by
    rw [inputs_of, ← a19_apply (a2 := a2) (a3 := a3) (a4 := a4) (a5 := a5) h0 h1]
    show A_main_v53 (F := Ideal) a0 a1 a2 a3 a4 a5 _ = _; pointwise [A_main_v53]
  v t b i := by
    rw [inputs_of]; refine Eq.trans ?_ (a20_apply (a2 := a2) (a3 := a3) (a4 := a4) (a5 := a5) h0 h1 b t i)
    show A_main_v54 (F := Ideal) a0 a1 a2 a3 a4 a5 _ = _; pointwise [A_main_v54]
  q t b i := by
    rw [inputs_of, ← a13_apply (a2 := a2) (a3 := a3) (a4 := a4) (a5 := a5) h0 h1]
    show A_main_v55 (F := Ideal) a0 a1 a2 a3 a4 a5 _ = _; pointwise [A_main_v55]
  al t b := by
    rw [inputs_of, ← a26_apply (a2 := a2) (a3 := a3) (a4 := a4) (a5 := a5) h0 h1 b t 0]
    show A_main_v56 (F := Ideal) a0 a1 a2 a3 a4 a5 _ = _; pointwise [A_main_v56]
  th t b := by
    rw [inputs_of, ← a34_apply (a2 := a2) (a3 := a3) (a4 := a4) (a5 := a5) h0 h1 b t 0]
    show A_main_v57 (F := Ideal) a0 a1 a2 a3 a4 a5 _ = _; pointwise [A_main_v57]
  et t b := by
    rw [inputs_of, ← a40_apply (a2 := a2) (a3 := a3) (a4 := a4) (a5 := a5) h0 h1 b t 0]
    show A_main_v58 (F := Ideal) a0 a1 a2 a3 a4 a5 _ = _; pointwise [A_main_v58]
  out t b i h := absurd h (Nat.not_lt_zero _)
  mats := by
    refine ⟨fun _ => w0, fun _ => p0, fun _ _ _ => 0, fun _ _ _ => 0, fun _ => w1, fun _ => p1, fun _ _ _ => 0, fun _ _ _ => 0,
      fun b i d => ?_, fun b d i => ?_, fun b i d => ?_, fun b d i => ?_, fun b i d => ?_, fun b d i => ?_, fun b i d => ?_,
      fun b d i => ?_, fun b => ?_⟩
    · rw [← h2]; show A_main_v42 (F := Ideal) a0 a1 a2 a3 a4 a5 _ = _; pointwise [A_main_v42, A_main_v41]
    · rw [← h3]; show A_main_v44 (F := Ideal) a0 a1 a2 a3 a4 a5 _ = _; pointwise [A_main_v44, A_main_v43]
    · rw [← h4]; show A_main_v46 (F := Ideal) a0 a1 a2 a3 a4 a5 _ = _; pointwise [A_main_v46, A_main_v45]
    · rw [← h5]; show A_main_v48 (F := Ideal) a0 a1 a2 a3 a4 a5 _ = _; pointwise [A_main_v48, A_main_v47]
    · exact Ideal.ofBits_zero .f32
    · exact Ideal.ofBits_zero .f32
    · exact Ideal.ofBits_zero .f32
    · exact Ideal.ofBits_zero .f32
    · simp only [pairs, add_zero]; rfl

end Cert.Proof.RefStep

end
-- ==== Proof.Value.lean ====
/-
  Kernel and reference agree over the reals at finite arguments: both leave the answers of the memory network that every
  row of the batch trains, step by step.
-/
module

public import proofs.«01_k».proof.Defs
public import proofs.«01_k».proof.Proof.Host
public import proofs.«01_k».proof.Proof.RefInit
public import proofs.«01_k».proof.Proof.RefRun

@[expose] public section

noncomputable section

namespace Cert.Proof.Value

open Idealize.ShloMosaic Cert.Proof.Memory

/-- A number below infinity in absolute value is real. -/
theorem real_of {x : Ideal .f32} (h : Ideal.cmp .olt (max (x : EReal) (-(x : EReal))) (Ideal.ofBits .f32 0x7F800000#32) = 1#1) :
    ∃ r : ℝ, (x : EReal) = (r : EReal) := by
  have htop : Ideal.ofBits .f32 0x7F800000#32 = ⊤ := by simp [Ideal.ofBits, Ideal.ieee]
  rw [htop] at h
  have hl : max (x : EReal) (-(x : EReal)) < ⊤ := by
    by_contra hn
    simp [Ideal.cmp, hn] at h
  rw [max_lt_iff] at hl
  refine ⟨EReal.toReal x, (EReal.coe_toReal hl.1.ne fun hb => ?_).symm⟩
  rw [hb] at hl
  exact absurd hl.2 (by simp)

/-- The arrays of the memory hold reals, where each passes the test. -/
theorem reals {s : Shape} (x : FVec Ideal s .f32) (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1) :
    ∃ f : s.Idx → ℝ, ∀ i, (x i : EReal) = ((f i : ℝ) : EReal) :=
  ⟨fun i => (real_of (x := x i) (congrFun h i)).choose, fun i => (real_of (x := x i) (congrFun h i)).choose_spec⟩

/-- The reference's states, trip by trip. -/
def states (m : (ℓ : Loc Cert.ReferenceIdeal.nD Cert.ReferenceIdeal.τ Cert.ReferenceIdeal.sig) → Buf (Elt Ideal) ℓ) (c : Dev Cert.ReferenceIdeal.nD) :
    ℕ → Cert.ReferenceIdeal.Step.State Ideal
  | 0 => Cert.Proof.RefRun.initState m c
  | n + 1 => Cert.ReferenceIdeal.Step.step n (states m c n)

/-- Both programs' results, entry by entry. -/
theorem results [Cert.Pre_finite_inputs.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite_inputs m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Step.R_main_v62 (states m' c 64) = (Cert.Proof.Launch.dats m 0 c).arrAt 8 Cert.KernelIdeal.cfg0.N := by
  obtain ⟨p0, p1, p2, p3, p4, p5⟩ := hpre c
  obtain ⟨x, hx⟩ := reals _ _ p0
  obtain ⟨W, hW⟩ := reals _ _ p1
  obtain ⟨w0, hw0⟩ := reals _ _ p2
  obtain ⟨w1, hw1⟩ := reals _ _ p3
  obtain ⟨q0, hq0⟩ := reals _ _ p4
  obtain ⟨q1, hq1⟩ := reals _ _ p5
  have L := Cert.Proof.RefStep.loop_init (x := fun b t i => x (ix3 b t i)) (W := fun o i => W (ix2 o i)) (w0 := fun i d => w0 (ix2 i d)) (w1 := fun d i => w1 (ix2 d i))
    (p0 := fun i d => q0 (ix2 i d)) (p1 := fun d i => q1 (ix2 d i))
    (a0 := m' ((c.tc : Thread Cert.ReferenceIdeal.nD Cert.ReferenceIdeal.τ).loc Cert.ReferenceIdeal.main_arg0))
    (a1 := m' ((c.tc : Thread Cert.ReferenceIdeal.nD Cert.ReferenceIdeal.τ).loc Cert.ReferenceIdeal.main_arg1))
    (a2 := m' ((c.tc : Thread Cert.ReferenceIdeal.nD Cert.ReferenceIdeal.τ).loc Cert.ReferenceIdeal.main_arg2))
    (a3 := m' ((c.tc : Thread Cert.ReferenceIdeal.nD Cert.ReferenceIdeal.τ).loc Cert.ReferenceIdeal.main_arg3))
    (a4 := m' ((c.tc : Thread Cert.ReferenceIdeal.nD Cert.ReferenceIdeal.τ).loc Cert.ReferenceIdeal.main_arg4))
    (a5 := m' ((c.tc : Thread Cert.ReferenceIdeal.nD Cert.ReferenceIdeal.τ).loc Cert.ReferenceIdeal.main_arg5))
    (fun b t i => by rw [h0]; exact hx _) (fun o i => by rw [h1]; exact hW _) (fun i d => by rw [h2]; exact hw0 _)
    (fun d i => by rw [h3]; exact hw1 _) (fun i d => by rw [h4]; exact hq0 _) (fun d i => by rw [h5]; exact hq1 _)
  funext j
  have ej : j = ix4 (j 0) (j 1) (j 2) (j 3) := funext fun a => match a with | 0 => rfl | 1 => rfl | 2 => rfl | 3 => rfl
  rw [ej]
  exact (Cert.Proof.RefStep.result_apply (Cert.Proof.RefStep.Loop.run (it := states m' c) L (fun _ => rfl) 64 le_rfl) (j 0) (j 1) (j 2) (j 3)).trans
    (Cert.Proof.Host.final_ans m c (x := fun b t i => x (ix3 b t i)) (W := fun o i => W (ix2 o i)) (w0 := fun i d => w0 (ix2 i d)) (w1 := fun d i => w1 (ix2 d i))
      (p0 := fun i d => q0 (ix2 i d)) (p1 := fun d i => q1 (ix2 d i))
      (fun _ _ _ => hx _) (fun _ _ => hW _) (fun _ _ => hw0 _) (fun _ _ => hw1 _) (fun _ _ => hq0 _) (fun _ _ => hq1 _) (j 0) (j 1) (j 2) (j 3)).symm

end Cert.Proof.Value

end
-- ==== Proof.lean ====
/-
  The claims, assembled: each program runs to its end and leaves its arguments as they were, every semaphore at zero; the
  program read over the reals is the program; and over the reals, at finite arguments, kernel and reference agree.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.BitLaunch
public import proofs.«01_k».proof.Proof.KernelLaunch
public import proofs.«01_k».proof.Proof.RefRun
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic

/-- The shapes the precondition's test spreads infinity over. -/
theorem spreads : Cert.Pre_finite_inputs.Facts where
  bcast_S_S4x64x256 := by decide
  bcast_S_S771x256 := by decide
  bcast_S_S256x1024 := by decide
  bcast_S_S1024x256 := by decide

/-- The reference runs to its end, its arguments kept and its semaphores at zero. -/
theorem referenceFrame : Cert.quiescent_ReferenceIdeal (hReferenceIdeal := Cert.ReferenceIdeal.Gen.facts) :=
  fun m ρ _ => (θ_run (Cert.ReferenceIdeal.defs (F := Ideal)) _ _).mono
    (fun r h => And.intro (fun c => (h c).2) (Idealize.ShloMosaic.sem_eq_zero_of_no_sems (by decide) r.2))
    (Cert.ReferenceIdeal.Value.run m ρ)

/-- At finite arguments, kernel and reference leave one array. -/
theorem agree : Cert.algebraic_KernelIdeal_ReferenceIdeal_pre_finite_inputs (hKernelIdeal := Cert.KernelIdeal.Gen.facts)
    (hReferenceIdeal := Cert.ReferenceIdeal.Gen.facts) (hPre_finite_inputs := spreads) :=
  fun m g m' g' hpre hargs => by
    letI := spreads
    refine ⟨fun c => (Launch.dats m 0 c).arrAt 8 Cert.KernelIdeal.cfg0.N, Launch.run_blocks m g,
      (θ_run (Cert.ReferenceIdeal.defs (F := Ideal)) _ _).mono (fun r h c => ⟨(h c).1.trans ?_, (h c).2⟩)
        (RefRun.run_iter m' g' (Value.states m') (fun _ => rfl) (fun _ _ => rfl))⟩
    obtain ⟨h0, h1, h2, h3, h4, h5⟩ := hargs c
    exact Value.results m m' hpre c h0 h1 h2 h3 h4 h5

/-- Every claim. -/
theorem claim : Cert.Claim :=
  ⟨Cert.Kernel.Gen.facts, Cert.KernelIdeal.Gen.facts, Cert.ReferenceIdeal.Gen.facts, spreads,
    fun m ρ _ => BitLaunch.frame m ρ,
    fun m ρ _ => Launch.frame m ρ,
    fun m ρ _ => Launch.frame m ρ,
    referenceFrame,
    fun m ρ _ => referenceFrame m ρ trivial,
    trivial,
    agree⟩

end Cert.Proof

end
